-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S2x1024x1024 : Shape := ⟨3, ![2, 1024, 1024]⟩
abbrev S2x1024x2 : Shape := ⟨3, ![2, 1024, 2]⟩
abbrev S128x1024 : Shape := ⟨2, ![128, 1024]⟩
abbrev S128 : Shape := ⟨1, ![128]⟩
abbrev S64x1024 : Shape := ⟨2, ![64, 1024]⟩
abbrev S64 : Shape := ⟨1, ![64]⟩
abbrev S1024x1024 : Shape := ⟨2, ![1024, 1024]⟩
abbrev S1024 : Shape := ⟨1, ![1024]⟩
abbrev S_ : Shape := ⟨0, ![]⟩
abbrev S1024x128 : Shape := ⟨2, ![1024, 128]⟩
abbrev S2x1024x128 : Shape := ⟨3, ![2, 1024, 128]⟩
abbrev S1x1x128 : Shape := ⟨3, ![1, 1, 128]⟩
abbrev S2x1024x16x4x2 : Shape := ⟨5, ![2, 1024, 16, 4, 2]⟩
abbrev S1024x64 : Shape := ⟨2, ![1024, 64]⟩
abbrev S2x1024x64 : Shape := ⟨3, ![2, 1024, 64]⟩
abbrev S1x1x64 : Shape := ⟨3, ![1, 1, 64]⟩
abbrev S2x1024x1x1x2 : Shape := ⟨5, ![2, 1024, 1, 1, 2]⟩
abbrev S2x16x1024x4x2 : Shape := ⟨5, ![2, 16, 1024, 4, 2]⟩
abbrev S32x4096x2 : Shape := ⟨3, ![32, 4096, 2]⟩
abbrev S2x1x1024x2 : Shape := ⟨4, ![2, 1, 1024, 2]⟩
abbrev S2x16x1024x2 : Shape := ⟨4, ![2, 16, 1024, 2]⟩
abbrev S32x1024x2 : Shape := ⟨3, ![32, 1024, 2]⟩
abbrev S32x4096 : Shape := ⟨2, ![32, 4096]⟩
abbrev S32x4096x1 : Shape := ⟨3, ![32, 4096, 1]⟩
abbrev S32x1024 : Shape := ⟨2, ![32, 1024]⟩
abbrev S32x1x1024 : Shape := ⟨3, ![32, 1, 1024]⟩
abbrev S32x4096x1024 : Shape := ⟨3, ![32, 4096, 1024]⟩
abbrev S32x4096x5 : Shape := ⟨3, ![32, 4096, 5]⟩
abbrev S32x4096x4 : Shape := ⟨3, ![32, 4096, 4]⟩

class Facts : Prop where
  transposes_S128x1024_S1024x128_1_0 : S128x1024.Transposes [1, 0] S1024x128
  bcast_S128_S1x1x128_2 : S128.BroadcastsInDim S1x1x128 (![2] : Fin 1 → Fin S1x1x128.rank)
  bcast_S1x1x128_S2x1024x128_0_1_2 : S1x1x128.BroadcastsInDim S2x1024x128 (![0, 1, 2] : Fin 3 → Fin S2x1024x128.rank)
  shapeCasts_S2x1024x128_S2x1024x16x4x2 : S2x1024x128.ShapeCasts S2x1024x16x4x2
  transposes_S64x1024_S1024x64_1_0 : S64x1024.Transposes [1, 0] S1024x64
  bcast_S64_S1x1x64_2 : S64.BroadcastsInDim S1x1x64 (![2] : Fin 1 → Fin S1x1x64.rank)
  bcast_S1x1x64_S2x1024x64_0_1_2 : S1x1x64.BroadcastsInDim S2x1024x64 (![0, 1, 2] : Fin 3 → Fin S2x1024x64.rank)
  bcast_S2x1024x2_S2x1024x1x1x2_0_1_4 : S2x1024x2.BroadcastsInDim S2x1024x1x1x2 (![0, 1, 4] : Fin 3 → Fin S2x1024x1x1x2.rank)
  bcast_S2x1024x1x1x2_S2x1024x16x4x2_0_1_2_3_4 : S2x1024x1x1x2.BroadcastsInDim S2x1024x16x4x2 (![0, 1, 2, 3, 4] : Fin 5 → Fin S2x1024x16x4x2.rank)
  transposes_S2x1024x16x4x2_S2x16x1024x4x2_0_2_1_3_4 : S2x1024x16x4x2.Transposes [0, 2, 1, 3, 4] S2x16x1024x4x2
  shapeCasts_S2x16x1024x4x2_S32x4096x2 : S2x16x1024x4x2.ShapeCasts S32x4096x2
  bcast_S2x1024x2_S2x1x1024x2_0_2_3 : S2x1024x2.BroadcastsInDim S2x1x1024x2 (![0, 2, 3] : Fin 3 → Fin S2x1x1024x2.rank)
  bcast_S2x1x1024x2_S2x16x1024x2_0_1_2_3 : S2x1x1024x2.BroadcastsInDim S2x16x1024x2 (![0, 1, 2, 3] : Fin 4 → Fin S2x16x1024x2.rank)
  shapeCasts_S2x16x1024x2_S32x1024x2 : S2x16x1024x2.ShapeCasts S32x1024x2
  reducesTo_S32x4096x2_S32x4096_d2 : S32x4096x2.ReducesTo [2] S32x4096
  h_S_ : 0 < S_.numel
  bcast_S32x4096_S32x4096x1_0_1 : S32x4096.BroadcastsInDim S32x4096x1 (![0, 1] : Fin 2 → Fin S32x4096x1.rank)
  reducesTo_S32x1024x2_S32x1024_d2 : S32x1024x2.ReducesTo [2] S32x1024
  bcast_S32x1024_S32x1x1024_0_2 : S32x1024.BroadcastsInDim S32x1x1024 (![0, 2] : Fin 2 → Fin S32x1x1024.rank)
  bcast_S32x4096x1_S32x4096x1024_0_1_2 : S32x4096x1.BroadcastsInDim S32x4096x1024 (![0, 1, 2] : Fin 3 → Fin S32x4096x1024.rank)
  bcast_S32x1x1024_S32x4096x1024_0_1_2 : S32x1x1024.BroadcastsInDim S32x4096x1024 (![0, 1, 2] : Fin 3 → Fin S32x4096x1024.rank)
  bcast_S_S32x4096x1024 : S_.BroadcastsInDim S32x4096x1024 (![] : Fin 0 → Fin S32x4096x1024.rank)
  sliceFits_S32x4096x1024_S32x4096x5 : S32x4096x1024.Slices (fun _ => 0) S32x4096x5
  bcast_S_S2x1024x64 : S_.BroadcastsInDim S2x1024x64 (![] : Fin 0 → Fin S2x1024x64.rank)
  slices_S32x4096x5_S32x4096x4_0_0_1 : S32x4096x5.Slices ![0, 0, 1] S32x4096x4
  slices_S32x4096x5_S32x4096x4_0_0_0 : S32x4096x5.Slices ![0, 0, 0] S32x4096x4
  dot_S2x1024x1024_S1024x128_S2x1024x128_2_0_01_1_n_n_wf : DotDims.WF S2x1024x1024 S1024x128 S2x1024x128 [2] [0] [0, 1] [1] [] []
  dot_S2x1024x1024_S1024x64_S2x1024x64_2_0_01_1_n_n_wf : DotDims.WF S2x1024x1024 S1024x64 S2x1024x64 [2] [0] [0, 1] [1] [] []
  dot_S32x4096x2_S32x1024x2_S32x4096x1024_2_2_1_1_0_0_wf : DotDims.WF S32x4096x2 S32x1024x2 S32x4096x1024 [2] [2] [1] [1] [0] [0]

variable [Facts]

def dot_S2x1024x1024_S1024x128_S2x1024x128_2_0_01_1_n_n : DotDims S2x1024x1024 S1024x128 S2x1024x128 where
  lhsContracting := [2]
  rhsContracting := [0]
  lhsNonContracting := [0, 1]
  rhsNonContracting := [1]
  lhsBatch := []
  rhsBatch := []
  wf := dot_S2x1024x1024_S1024x128_S2x1024x128_2_0_01_1_n_n_wf
def dot_S2x1024x1024_S1024x64_S2x1024x64_2_0_01_1_n_n : DotDims S2x1024x1024 S1024x64 S2x1024x64 where
  lhsContracting := [2]
  rhsContracting := [0]
  lhsNonContracting := [0, 1]
  rhsNonContracting := [1]
  lhsBatch := []
  rhsBatch := []
  wf := dot_S2x1024x1024_S1024x64_S2x1024x64_2_0_01_1_n_n_wf
def dot_S32x4096x2_S32x1024x2_S32x4096x1024_2_2_1_1_0_0 : DotDims S32x4096x2 S32x1024x2 S32x4096x1024 where
  lhsContracting := [2]
  rhsContracting := [2]
  lhsNonContracting := [1]
  rhsNonContracting := [1]
  lhsBatch := [0]
  rhsBatch := [0]
  wf := dot_S32x4096x2_S32x1024x2_S32x4096x1024_2_2_1_1_0_0_wf
def fn_part1 {F : FTy → Type} [FloatOps F] (main_arg10 : FVec F S_ .f32) (main_v10 : FVec F S2x1024x64 .f32) (main_v15 : FVec F S32x4096x2 .f32) (main_v18 : FVec F S32x1024x2 .f32) (main_v21 : FVec F S32x4096x1 .f32) (main_v22 : FVec F S32x1024x2 .f32) : IVec S2x1024x64 1 × IVec S_ 1 × IVec S32x4096x4 1 :=
  let main_cst_0 : FVec F S_ .f32 := constant S_ .f32 0x00000000#32
  let main_v23 : FVec F S32x1024 .f32 := (fun x v => Host.reduceAdd x v reducesTo_S32x1024x2_S32x1024_d2 h_S_) main_v22 main_cst_0
  let main_v24 : FVec F S32x1x1024 .f32 := broadcastInDim S32x1x1024 ![0, 2] bcast_S32x1024_S32x1x1024_0_2 main_v23
  let main_v25 : FVec F S32x4096x1024 .f32 := broadcastInDim S32x4096x1024 ![0, 1, 2] bcast_S32x4096x1_S32x4096x1024_0_1_2 main_v21
  let main_v26 : FVec F S32x4096x1024 .f32 := broadcastInDim S32x4096x1024 ![0, 1, 2] bcast_S32x1x1024_S32x4096x1024_0_1_2 main_v24
  let main_v27 : FVec F S32x4096x1024 .f32 := addf main_v25 main_v26
  let main_v28 : FVec F S32x4096x1024 .f32 := (fun l r => Host.dotGeneral dot_S32x4096x2_S32x1024x2_S32x4096x1024_2_2_1_1_0_0 none l r) main_v15 main_v18
  let main_cst_1 : FVec F S_ .f32 := constant S_ .f32 0x40000000#32
  let main_v29 : FVec F S32x4096x1024 .f32 := broadcastInDim S32x4096x1024 ![] bcast_S_S32x4096x1024 main_cst_1
  let main_v30 : FVec F S32x4096x1024 .f32 := mulf main_v29 main_v28
  let main_v31 : FVec F S32x4096x1024 .f32 := subf main_v27 main_v30
  let main_v32 : FVec F S32x4096x1024 .f32 := Host.negf main_v31
  let main_values : FVec F S32x4096x5 .f32 := (fun x => (Host.topK S32x4096x5 2 (FloatOps.cmpfTotal .gt) x sliceFits_S32x4096x1024_S32x4096x5).1) main_v32
  let main_indices : IVec S32x4096x5 32 := (fun x => (Host.topK S32x4096x5 2 (FloatOps.cmpfTotal .gt) x sliceFits_S32x4096x1024_S32x4096x5).2) main_v32
  let main_cst_2 : FVec F S_ .f32 := constant S_ .f32 0x7F800000#32
  let main_v33 : FVec F S2x1024x64 .f32 := broadcastInDim S2x1024x64 ![] bcast_S_S2x1024x64 main_cst_2
  let main_v34 : IVec S2x1024x64 1 := cmpf .olt main_v10 main_v33
  let main_cst_3 : FVec F S_ .f32 := constant S_ .f32 0x7F800000#32
  let main_v35 : IVec S_ 1 := cmpf .olt main_arg10 main_cst_3
  let main_v36 : FVec F S32x4096x4 .f32 := (extractStridedSlice S32x4096x4 ![0, 0, 1] · slices_S32x4096x5_S32x4096x4_0_0_1) main_values
  let main_v37 : FVec F S32x4096x4 .f32 := (extractStridedSlice S32x4096x4 ![0, 0, 0] · slices_S32x4096x5_S32x4096x4_0_0_0) main_values
  let main_v38 : IVec S32x4096x4 1 := cmpf .olt main_v36 main_v37
  (main_v34, main_v35, main_v38)

def fn {F : FTy → Type} [FloatOps F] (main_arg0 : FVec F S2x1024x1024 .f32) (main_arg1 : FVec F S2x1024x2 .f32) (main_arg2 : FVec F S128x1024 .f32) (main_arg3 : FVec F S128 .f32) (main_arg4 : FVec F S64x1024 .f32) (main_arg5 : FVec F S64 .f32) (main_arg6 : FVec F S1024x1024 .f32) (main_arg7 : FVec F S1024 .f32) (main_arg8 : FVec F S1024x1024 .f32) (main_arg9 : FVec F S1024 .f32) (main_arg10 : FVec F S_ .f32) : IVec S2x1024x64 1 × IVec S_ 1 × IVec S32x4096x4 1 :=
  let main_v0 : FVec F S1024x128 .f32 := (transpose S1024x128 [1, 0] · transposes_S128x1024_S1024x128_1_0) main_arg2
  let main_v1 : FVec F S2x1024x128 .f32 := (fun l r => Host.dotGeneral dot_S2x1024x1024_S1024x128_S2x1024x128_2_0_01_1_n_n none l r) main_arg0 main_v0
  let main_v2 : FVec F S1x1x128 .f32 := broadcastInDim S1x1x128 ![2] bcast_S128_S1x1x128_2 main_arg3
  let main_v3 : FVec F S2x1024x128 .f32 := broadcastInDim S2x1024x128 ![0, 1, 2] bcast_S1x1x128_S2x1024x128_0_1_2 main_v2
  let main_v4 : FVec F S2x1024x128 .f32 := addf main_v1 main_v3
  let main_v5 : FVec F S2x1024x16x4x2 .f32 := shapeCast S2x1024x16x4x2 main_v4 shapeCasts_S2x1024x128_S2x1024x16x4x2
  let main_v6 : FVec F S1024x64 .f32 := (transpose S1024x64 [1, 0] · transposes_S64x1024_S1024x64_1_0) main_arg4
  let main_v7 : FVec F S2x1024x64 .f32 := (fun l r => Host.dotGeneral dot_S2x1024x1024_S1024x64_S2x1024x64_2_0_01_1_n_n none l r) main_arg0 main_v6
  let main_v8 : FVec F S1x1x64 .f32 := broadcastInDim S1x1x64 ![2] bcast_S64_S1x1x64_2 main_arg5
  let main_v9 : FVec F S2x1024x64 .f32 := broadcastInDim S2x1024x64 ![0, 1, 2] bcast_S1x1x64_S2x1024x64_0_1_2 main_v8
  let main_v10 : FVec F S2x1024x64 .f32 := addf main_v7 main_v9
  let main_v11 : FVec F S2x1024x1x1x2 .f32 := broadcastInDim S2x1024x1x1x2 ![0, 1, 4] bcast_S2x1024x2_S2x1024x1x1x2_0_1_4 main_arg1
  let main_v12 : FVec F S2x1024x16x4x2 .f32 := broadcastInDim S2x1024x16x4x2 ![0, 1, 2, 3, 4] bcast_S2x1024x1x1x2_S2x1024x16x4x2_0_1_2_3_4 main_v11
  let main_v13 : FVec F S2x1024x16x4x2 .f32 := addf main_v12 main_v5
  let main_v14 : FVec F S2x16x1024x4x2 .f32 := (transpose S2x16x1024x4x2 [0, 2, 1, 3, 4] · transposes_S2x1024x16x4x2_S2x16x1024x4x2_0_2_1_3_4) main_v13
  let main_v15 : FVec F S32x4096x2 .f32 := shapeCast S32x4096x2 main_v14 shapeCasts_S2x16x1024x4x2_S32x4096x2
  let main_v16 : FVec F S2x1x1024x2 .f32 := broadcastInDim S2x1x1024x2 ![0, 2, 3] bcast_S2x1024x2_S2x1x1024x2_0_2_3 main_arg1
  let main_v17 : FVec F S2x16x1024x2 .f32 := broadcastInDim S2x16x1024x2 ![0, 1, 2, 3] bcast_S2x1x1024x2_S2x16x1024x2_0_1_2_3 main_v16
  let main_v18 : FVec F S32x1024x2 .f32 := shapeCast S32x1024x2 main_v17 shapeCasts_S2x16x1024x2_S32x1024x2
  let main_v19 : FVec F S32x4096x2 .f32 := mulf main_v15 main_v15
  let main_cst : FVec F S_ .f32 := constant S_ .f32 0x00000000#32
  let main_v20 : FVec F S32x4096 .f32 := (fun x v => Host.reduceAdd x v reducesTo_S32x4096x2_S32x4096_d2 h_S_) main_v19 main_cst
  let main_v21 : FVec F S32x4096x1 .f32 := broadcastInDim S32x4096x1 ![0, 1] bcast_S32x4096_S32x4096x1_0_1 main_v20
  let main_v22 : FVec F S32x1024x2 .f32 := mulf main_v18 main_v18
  fn_part1 (F := F) main_arg10 main_v10 main_v15 main_v18 main_v21 main_v22
-- ==== Kernel.lean ====
abbrev S2x1024x1024 : Shape := ⟨3, ![2, 1024, 1024]⟩
abbrev S2x1024x2 : Shape := ⟨3, ![2, 1024, 2]⟩
abbrev S128x1024 : Shape := ⟨2, ![128, 1024]⟩
abbrev S128 : Shape := ⟨1, ![128]⟩
abbrev S64x1024 : Shape := ⟨2, ![64, 1024]⟩
abbrev S64 : Shape := ⟨1, ![64]⟩
abbrev S1024x1024 : Shape := ⟨2, ![1024, 1024]⟩
abbrev S1024 : Shape := ⟨1, ![1024]⟩
abbrev S_ : Shape := ⟨0, ![]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1x1024 : Shape := ⟨2, ![1, 1024]⟩
abbrev S2x1024x128 : Shape := ⟨3, ![2, 1024, 128]⟩
abbrev S2x1024x64 : Shape := ⟨3, ![2, 1024, 64]⟩
abbrev S1x256x1024 : Shape := ⟨3, ![1, 256, 1024]⟩
abbrev S1x256x2 : Shape := ⟨3, ![1, 256, 2]⟩
abbrev S1x256x128 : Shape := ⟨3, ![1, 256, 128]⟩
abbrev S1x256x64 : Shape := ⟨3, ![1, 256, 64]⟩
abbrev S256x1024 : Shape := ⟨2, ![256, 1024]⟩
abbrev S256x128 : Shape := ⟨2, ![256, 128]⟩
abbrev S256x64 : Shape := ⟨2, ![256, 64]⟩
abbrev S256x2 : Shape := ⟨2, ![256, 2]⟩
abbrev S64x64 : Shape := ⟨2, ![64, 64]⟩
abbrev S256 : Shape := ⟨1, ![256]⟩
abbrev S256x1 : Shape := ⟨2, ![256, 1]⟩
abbrev S2x1024x1 : Shape := ⟨3, ![2, 1024, 1]⟩
abbrev S2x1024 : Shape := ⟨2, ![2, 1024]⟩
abbrev S2x1x1024 : Shape := ⟨3, ![2, 1, 1024]⟩
abbrev S2x3x1024 : Shape := ⟨3, ![2, 3, 1024]⟩
abbrev S2x1024x64x2 : Shape := ⟨4, ![2, 1024, 64, 2]⟩
abbrev S2x64x1024x2 : Shape := ⟨4, ![2, 64, 1024, 2]⟩
abbrev S2x1024x16x4 : Shape := ⟨4, ![2, 1024, 16, 4]⟩
abbrev S2x16x1024x4 : Shape := ⟨4, ![2, 16, 1024, 4]⟩
abbrev S2x1024x16x64 : Shape := ⟨4, ![2, 1024, 16, 64]⟩
abbrev S2x16x1024x64 : Shape := ⟨4, ![2, 16, 1024, 64]⟩
abbrev S1x1 : Shape := ⟨2, ![1, 1]⟩
abbrev S1x1x1024x2 : Shape := ⟨4, ![1, 1, 1024, 2]⟩
abbrev S1x1x1024x4 : Shape := ⟨4, ![1, 1, 1024, 4]⟩
abbrev S1x3x1024 : Shape := ⟨3, ![1, 3, 1024]⟩
abbrev S1x1x1024x64 : Shape := ⟨4, ![1, 1, 1024, 64]⟩
abbrev S1024x65 : Shape := ⟨2, ![1024, 65]⟩
abbrev S1024x2 : Shape := ⟨2, ![1024, 2]⟩
abbrev S3x1024 : Shape := ⟨2, ![3, 1024]⟩
abbrev S1024x1 : Shape := ⟨2, ![1024, 1]⟩
abbrev S1024x4 : Shape := ⟨2, ![1024, 4]⟩
abbrev S16x64x1024 : Shape := ⟨3, ![16, 64, 1024]⟩
abbrev S1x64x1024 : Shape := ⟨3, ![1, 64, 1024]⟩
abbrev S1x1024x1024 : Shape := ⟨3, ![1, 1024, 1024]⟩

abbrev nBuf : Space → Nat
  | .hbm => 43
  | .vmem => 34
  | .smem => 1
  | _ => 0

abbrev bufTy : (tb : Table) → Fin (tcTables nBuf tb) → BufTy
  | .hbm, ⟨0, _⟩ => ⟨S2x1024x1024, .f32⟩
  | .hbm, ⟨1, _⟩ => ⟨S2x1024x2, .f32⟩
  | .hbm, ⟨2, _⟩ => ⟨S128x1024, .f32⟩
  | .hbm, ⟨3, _⟩ => ⟨S128, .f32⟩
  | .hbm, ⟨4, _⟩ => ⟨S64x1024, .f32⟩
  | .hbm, ⟨5, _⟩ => ⟨S64, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S1024x128, .f32⟩
  | .hbm, ⟨12, _⟩ => ⟨S1x128, .f32⟩
  | .hbm, ⟨13, _⟩ => ⟨S1024x64, .f32⟩
  | .hbm, ⟨14, _⟩ => ⟨S1x64, .f32⟩
  | .hbm, ⟨15, _⟩ => ⟨S1024x1024, .f32⟩
  | .hbm, ⟨16, _⟩ => ⟨S1x1024, .f32⟩
  | .hbm, ⟨17, _⟩ => ⟨S2x1024x128, .f32⟩
  | .hbm, ⟨18, _⟩ => ⟨S2x1024x64, .f32⟩
  | .hbm, ⟨19, _⟩ => ⟨S2x1024x1024, .f32⟩
  | .hbm, ⟨20, _⟩ => ⟨S2x1024x1, .f32⟩
  | .hbm, ⟨21, _⟩ => ⟨S2x1024, .f32⟩
  | .hbm, ⟨22, _⟩ => ⟨S2x1024x1, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S2x1x1024, .f32⟩
  | .hbm, ⟨28, _⟩ => ⟨S2x1x1024, .f32⟩
  | .hbm, ⟨29, _⟩ => ⟨S2x1x1024, .f32⟩
  | .hbm, ⟨30, _⟩ => ⟨S2x3x1024, .f32⟩
  | .hbm, ⟨31, _⟩ => ⟨S2x1024x64x2, .f32⟩
  | .hbm, ⟨32, _⟩ => ⟨S2x64x1024x2, .f32⟩
  | .hbm, ⟨33, _⟩ => ⟨S2x1024x16x4, .f32⟩
  | .hbm, ⟨34, _⟩ => ⟨S2x16x1024x4, .f32⟩
  | .hbm, ⟨35, _⟩ => ⟨S2x1024x16x64, .f32⟩
  | .hbm, ⟨36, _⟩ => ⟨S2x16x1024x64, .f32⟩
  | .hbm, ⟨37, _⟩ => ⟨S1x1, .f32⟩
  | .hbm, ⟨38, _⟩ => ⟨S2x16x1024x64, .f32⟩
  | .hbm, ⟨39, _⟩ => ⟨S1024x1024, .f32⟩
  | .hbm, ⟨40, _⟩ => ⟨S16x64x1024, .f32⟩
  | .hbm, ⟨41, _⟩ => ⟨S1x1024, .f32⟩
  | .hbm, ⟨42, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x2, .f32⟩
  | .local _ .vmem, ⟨3, _⟩ => ⟨S1x256x2, .f32⟩
  | .local _ .vmem, ⟨4, _⟩ => ⟨S1024x128, .f32⟩
  | .local _ .vmem, ⟨5, _⟩ => ⟨S1x128, .f32⟩
  | .local _ .vmem, ⟨6, _⟩ => ⟨S1024x64, .f32⟩
  | .local _ .vmem, ⟨7, _⟩ => ⟨S1x64, .f32⟩
  | .local _ .vmem, ⟨8, _⟩ => ⟨S1024x1024, .f32⟩
  | .local _ .vmem, ⟨9, _⟩ => ⟨S1x1024, .f32⟩
  | .local _ .vmem, ⟨10, _⟩ => ⟨S1x256x128, .f32⟩
  | .local _ .vmem, ⟨11, _⟩ => ⟨S1x256x128, .f32⟩
  | .local _ .vmem, ⟨12, _⟩ => ⟨S1x256x64, .f32⟩
  | .local _ .vmem, ⟨13, _⟩ => ⟨S1x256x64, .f32⟩
  | .local _ .vmem, ⟨14, _⟩ => ⟨S1x256x1024, .f32⟩
  | .local _ .vmem, ⟨15, _⟩ => ⟨S1x256x1024, .f32⟩
  | .local _ .vmem, ⟨16, _⟩ => ⟨S1x1x1024x2, .f32⟩
  | .local _ .vmem, ⟨17, _⟩ => ⟨S1x1x1024x2, .f32⟩
  | .local _ .vmem, ⟨18, _⟩ => ⟨S1x1x1024x4, .f32⟩
  | .local _ .vmem, ⟨19, _⟩ => ⟨S1x1x1024x4, .f32⟩
  | .local _ .vmem, ⟨20, _⟩ => ⟨S1x3x1024, .f32⟩
  | .local _ .vmem, ⟨21, _⟩ => ⟨S1x3x1024, .f32⟩
  | .local _ .vmem, ⟨22, _⟩ => ⟨S1x1x1024x64, .f32⟩
  | .local _ .vmem, ⟨23, _⟩ => ⟨S1x1x1024x64, .f32⟩
  | .local _ .vmem, ⟨24, _⟩ => ⟨S1x1x1024x64, .f32⟩
  | .local _ .vmem, ⟨25, _⟩ => ⟨S1x1x1024x64, .f32⟩
  | .local _ .vmem, ⟨26, _⟩ => ⟨S1024x65, .f32⟩
  | .local _ .vmem, ⟨27, _⟩ => ⟨S1x1x1024x64, .f32⟩
  | .local _ .vmem, ⟨28, _⟩ => ⟨S1x1x1024x64, .f32⟩
  | .local _ .vmem, ⟨29, _⟩ => ⟨S1x64x1024, .f32⟩
  | .local _ .vmem, ⟨30, _⟩ => ⟨S1x64x1024, .f32⟩
  | .local _ .vmem, ⟨31, _⟩ => ⟨S1x1024, .f32⟩
  | .local _ .vmem, ⟨32, _⟩ => ⟨S1x1024x1024, .f32⟩
  | .local _ .vmem, ⟨33, _⟩ => ⟨S1x1024x1024, .f32⟩
  | .local _ .smem, ⟨0, _⟩ => ⟨S1x1, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_scratch0 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg3_1 : Ref sig .tc := ⟨.vmem, 33, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![32, 4], ![false, false]⟩

def k1_cond2 (i : grid1.Coords) : BitVec 1 :=
  let arg1 : BitVec 32 := BitVec.ofNat 32 (i 1).val
  let c0_i32_30 : BitVec 32 := 0#32
  let v80 : BitVec 1 := Scalar.cmpi .eq arg1 c0_i32_30
  let v81 : BitVec 32 := Scalar.extui v80
  let c0_i32_31 : BitVec 32 := 0#32
  let v82 : BitVec 1 := Scalar.cmpi .ne v81 c0_i32_31
  v82

def k1_cond3 (i : grid1.Coords) : BitVec 1 :=
  let arg1 : BitVec 32 := BitVec.ofNat 32 (i 1).val
  let c0_i32_32 : BitVec 32 := 0#32
  let v83 : BitVec 1 := Scalar.cmpi .sgt arg1 c0_i32_32
  let v84 : BitVec 32 := Scalar.extui v83
  let c0_i32_33 : BitVec 32 := 0#32
  let v85 : BitVec 1 := Scalar.cmpi .ne v84 c0_i32_33
  v85

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let v28 : BitVec 32 := Scalar.addi v27 arg1
  let c0_i32_10 : BitVec 32 := 0#32
  let c0_i32_11 : BitVec 32 := 0#32
  let c0_i32_12 : BitVec 32 := 0#32
  ![v16.toNat, v28.toNat, c0_i32_10.toNat, c0_i32_11.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_5 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x1x1024x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x3x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![2, 16], ![false, false]⟩

def k2_cond1 (i : grid2.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_6 : BitVec 32 := 0#32
  let v7 : BitVec 1 := Scalar.cmpi .ne v6 c0_i32_6
  v7

def k2_cond2 (i : grid2.Coords) : BitVec 1 :=
  let arg1 : BitVec 32 := BitVec.ofNat 32 (i 1).val
  let c0_i32_7 : BitVec 32 := 0#32
  let v8 : BitVec 1 := Scalar.cmpi .sgt arg1 c0_i32_7
  let v9 : BitVec 32 := Scalar.extui v8
  let c0_i32_8 : BitVec 32 := 0#32
  let v10 : BitVec 1 := Scalar.cmpi .ne v9 c0_i32_8
  v10

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]
-- ==== ReferenceIdeal.lean ====
abbrev S2x1024x1024 : Shape := ⟨3, ![2, 1024, 1024]⟩
abbrev S2x1024x2 : Shape := ⟨3, ![2, 1024, 2]⟩
abbrev S128x1024 : Shape := ⟨2, ![128, 1024]⟩
abbrev S128 : Shape := ⟨1, ![128]⟩
abbrev S64x1024 : Shape := ⟨2, ![64, 1024]⟩
abbrev S64 : Shape := ⟨1, ![64]⟩
abbrev S1024x1024 : Shape := ⟨2, ![1024, 1024]⟩
abbrev S1024 : Shape := ⟨1, ![1024]⟩
abbrev S_ : Shape := ⟨0, ![]⟩
abbrev S1024x128 : Shape := ⟨2, ![1024, 128]⟩
abbrev S2x1024x128 : Shape := ⟨3, ![2, 1024, 128]⟩
abbrev S1x1x128 : Shape := ⟨3, ![1, 1, 128]⟩
abbrev S2x1024x16x4x2 : Shape := ⟨5, ![2, 1024, 16, 4, 2]⟩
abbrev S1024x64 : Shape := ⟨2, ![1024, 64]⟩
abbrev S2x1024x64 : Shape := ⟨3, ![2, 1024, 64]⟩
abbrev S1x1x64 : Shape := ⟨3, ![1, 1, 64]⟩
abbrev S2x1024x16x4 : Shape := ⟨4, ![2, 1024, 16, 4]⟩
abbrev S2x1024x16 : Shape := ⟨3, ![2, 1024, 16]⟩
abbrev S2x1024x16x1 : Shape := ⟨4, ![2, 1024, 16, 1]⟩
abbrev S1x1x1024 : Shape := ⟨3, ![1, 1, 1024]⟩
abbrev S2x1024x16x64 : Shape := ⟨4, ![2, 1024, 16, 64]⟩
abbrev S2x16x1024x64 : Shape := ⟨4, ![2, 16, 1024, 64]⟩
abbrev S32x1024x64 : Shape := ⟨3, ![32, 1024, 64]⟩
abbrev S2x1024x1x1x2 : Shape := ⟨5, ![2, 1024, 1, 1, 2]⟩
abbrev S2x16x1024x4x2 : Shape := ⟨5, ![2, 16, 1024, 4, 2]⟩
abbrev S32x4096x2 : Shape := ⟨3, ![32, 4096, 2]⟩
abbrev S2x1x1024x2 : Shape := ⟨4, ![2, 1, 1024, 2]⟩
abbrev S2x16x1024x2 : Shape := ⟨4, ![2, 16, 1024, 2]⟩
abbrev S32x1024x2 : Shape := ⟨3, ![32, 1024, 2]⟩
abbrev S32x4096 : Shape := ⟨2, ![32, 4096]⟩
abbrev S32x4096x1 : Shape := ⟨3, ![32, 4096, 1]⟩
abbrev S32x1024 : Shape := ⟨2, ![32, 1024]⟩
abbrev S32x1x1024 : Shape := ⟨3, ![32, 1, 1024]⟩
abbrev S32x4096x1024 : Shape := ⟨3, ![32, 4096, 1024]⟩
abbrev S32x4096x4 : Shape := ⟨3, ![32, 4096, 4]⟩
abbrev S32x4096x4x1 : Shape := ⟨4, ![32, 4096, 4, 1]⟩
abbrev S32x4096x4x2 : Shape := ⟨4, ![32, 4096, 4, 2]⟩
abbrev S32x4096x1x2 : Shape := ⟨4, ![32, 4096, 1, 2]⟩
abbrev S32x16384 : Shape := ⟨2, ![32, 16384]⟩
abbrev S32x16384x1 : Shape := ⟨3, ![32, 16384, 1]⟩
abbrev S32x16384x64 : Shape := ⟨3, ![32, 16384, 64]⟩
abbrev S32x1024x4x4x64 : Shape := ⟨5, ![32, 1024, 4, 4, 64]⟩
abbrev S32x1024x4x4 : Shape := ⟨4, ![32, 1024, 4, 4]⟩
abbrev S2x16x1024x4 : Shape := ⟨4, ![2, 16, 1024, 4]⟩
abbrev S32x1024x4 : Shape := ⟨3, ![32, 1024, 4]⟩
abbrev S32x1024x4x4x1 : Shape := ⟨5, ![32, 1024, 4, 4, 1]⟩
abbrev S32x1024x4x64 : Shape := ⟨4, ![32, 1024, 4, 64]⟩
abbrev S32x1024x4x1 : Shape := ⟨4, ![32, 1024, 4, 1]⟩

abbrev nBuf : Space → Nat
  | .hbm => 144
  | .vmem => 0
  | .smem => 0
  | _ => 0

abbrev hbmTy0_0 (i : Nat) : BufTy := match i % 128 with
  | 0 => ⟨S2x1024x1024, .f32⟩
  | 1 => ⟨S2x1024x2, .f32⟩
  | 2 => ⟨S128x1024, .f32⟩
  | 3 => ⟨S128, .f32⟩
  | 4 => ⟨S64x1024, .f32⟩
  | 5 => ⟨S64, .f32⟩
  | 6 => ⟨S1024x1024, .f32⟩
  | 7 => ⟨S1024, .f32⟩
  | 8 => ⟨S1024x1024, .f32⟩
  | 9 => ⟨S1024, .f32⟩
  | 10 => ⟨S_, .f32⟩
  | 11 => ⟨S1024x128, .f32⟩
  | 12 => ⟨S2x1024x128, .f32⟩
  | 13 => ⟨S1x1x128, .f32⟩
  | 14 => ⟨S2x1024x128, .f32⟩
  | 15 => ⟨S2x1024x128, .f32⟩
  | 16 => ⟨S2x1024x16x4x2, .f32⟩
  | 17 => ⟨S1024x64, .f32⟩
  | 18 => ⟨S2x1024x64, .f32⟩
  | 19 => ⟨S1x1x64, .f32⟩
  | 20 => ⟨S2x1024x64, .f32⟩
  | 21 => ⟨S2x1024x64, .f32⟩
  | 22 => ⟨S2x1024x16x4, .f32⟩
  | 23 => ⟨S_, .f32⟩
  | 24 => ⟨S2x1024x16, .f32⟩
  | 25 => ⟨S_, .f32⟩
  | 26 => ⟨S2x1024x16, .f32⟩
  | 27 => ⟨S2x1024x16, .f32⟩
  | 28 => ⟨S2x1024x16x1, .f32⟩
  | 29 => ⟨S2x1024x16x4, .f32⟩
  | 30 => ⟨S2x1024x16x4, .f32⟩
  | 31 => ⟨S2x1024x16x4, .f32⟩
  | 32 => ⟨S_, .f32⟩
  | 33 => ⟨S2x1024x16, .f32⟩
  | 34 => ⟨S2x1024x16x1, .f32⟩
  | 35 => ⟨S2x1024x16x4, .f32⟩
  | 36 => ⟨S2x1024x16x4, .f32⟩
  | 37 => ⟨S1024x1024, .f32⟩
  | 38 => ⟨S2x1024x1024, .f32⟩
  | 39 => ⟨S1x1x1024, .f32⟩
  | 40 => ⟨S2x1024x1024, .f32⟩
  | 41 => ⟨S2x1024x1024, .f32⟩
  | 42 => ⟨S2x1024x16x64, .f32⟩
  | 43 => ⟨S2x16x1024x64, .f32⟩
  | 44 => ⟨S32x1024x64, .f32⟩
  | 45 => ⟨S2x1024x1x1x2, .f32⟩
  | 46 => ⟨S2x1024x16x4x2, .f32⟩
  | 47 => ⟨S2x1024x16x4x2, .f32⟩
  | 48 => ⟨S2x16x1024x4x2, .f32⟩
  | 49 => ⟨S32x4096x2, .f32⟩
  | 50 => ⟨S2x1x1024x2, .f32⟩
  | 51 => ⟨S2x16x1024x2, .f32⟩
  | 52 => ⟨S32x1024x2, .f32⟩
  | 53 => ⟨S32x4096x2, .f32⟩
  | 54 => ⟨S_, .f32⟩
  | 55 => ⟨S32x4096, .f32⟩
  | 56 => ⟨S32x4096x1, .f32⟩
  | 57 => ⟨S32x1024x2, .f32⟩
  | 58 => ⟨S_, .f32⟩
  | 59 => ⟨S32x1024, .f32⟩
  | 60 => ⟨S32x1x1024, .f32⟩
  | 61 => ⟨S32x4096x1024, .f32⟩
  | 62 => ⟨S32x4096x1024, .f32⟩
  | 63 => ⟨S32x4096x1024, .f32⟩
  | 64 => ⟨S32x4096x1024, .f32⟩
  | 65 => ⟨S_, .f32⟩
  | 66 => ⟨S32x4096x1024, .f32⟩
  | 67 => ⟨S32x4096x1024, .f32⟩
  | 68 => ⟨S32x4096x1024, .f32⟩
  | 69 => ⟨S32x4096x1024, .f32⟩
  | 70 => ⟨S32x4096x4, .f32⟩
  | 71 => ⟨S32x4096x4, .i32⟩
  | 72 => ⟨S_, .i32⟩
  | 73 => ⟨S32x4096x4, .i32⟩
  | 74 => ⟨S32x4096x4, .i1⟩
  | 75 => ⟨S_, .i32⟩
  | 76 => ⟨S32x4096x4, .i32⟩
  | 77 => ⟨S32x4096x4, .i32⟩
  | 78 => ⟨S32x4096x4, .i32⟩
  | 79 => ⟨S32x4096x4x1, .i32⟩
  | 80 => ⟨S32x4096x4x2, .f32⟩
  | 81 => ⟨S32x4096x1x2, .f32⟩
  | 82 => ⟨S32x4096x4x2, .f32⟩
  | 83 => ⟨S32x4096x4x2, .f32⟩
  | 84 => ⟨S32x4096x4x2, .f32⟩
  | 85 => ⟨S_, .f32⟩
  | 86 => ⟨S32x4096x4, .f32⟩
  | 87 => ⟨S32x4096x4, .f32⟩
  | 88 => ⟨S_, .f32⟩
  | 89 => ⟨S32x4096x4, .f32⟩
  | 90 => ⟨S32x4096x4, .f32⟩
  | 91 => ⟨S_, .f32⟩
  | 92 => ⟨S_, .f32⟩
  | 93 => ⟨S_, .f32⟩
  | 94 => ⟨S_, .f32⟩
  | 95 => ⟨S_, .f32⟩
  | 96 => ⟨S32x4096x4, .f32⟩
  | 97 => ⟨S32x4096x4, .f32⟩
  | 98 => ⟨S_, .f32⟩
  | 99 => ⟨S32x4096, .f32⟩
  | 100 => ⟨S_, .f32⟩
  | 101 => ⟨S32x4096, .f32⟩
  | 102 => ⟨S32x4096, .f32⟩
  | 103 => ⟨S32x4096x1, .f32⟩
  | 104 => ⟨S32x4096x4, .f32⟩
  | 105 => ⟨S32x4096x4, .f32⟩
  | 106 => ⟨S32x4096x4, .f32⟩
  | 107 => ⟨S_, .f32⟩
  | 108 => ⟨S32x4096, .f32⟩
  | 109 => ⟨S32x4096x1, .f32⟩
  | 110 => ⟨S32x4096x4, .f32⟩
  | 111 => ⟨S32x4096x4, .f32⟩
  | 112 => ⟨S32x16384, .i32⟩
  | 113 => ⟨S_, .i32⟩
  | 114 => ⟨S32x16384, .i32⟩
  | 115 => ⟨S32x16384, .i1⟩
  | 116 => ⟨S_, .i32⟩
  | 117 => ⟨S32x16384, .i32⟩
  | 118 => ⟨S32x16384, .i32⟩
  | 119 => ⟨S32x16384, .i32⟩
  | 120 => ⟨S32x16384x1, .i32⟩
  | 121 => ⟨S32x16384x64, .f32⟩
  | 122 => ⟨S32x1024x4x4x64, .f32⟩
  | 123 => ⟨S32x1024x4x4, .f32⟩
  | 124 => ⟨S2x16x1024x4, .f32⟩
  | 125 => ⟨S32x1024x4, .f32⟩
  | 126 => ⟨S32x1024x4x4x1, .f32⟩
  | 127 => ⟨S32x1024x4x4x64, .f32⟩
  | _ => ⟨S2x1024x1024, .f32⟩

abbrev hbmTy0_1 (i : Nat) : BufTy := match i % 128 with
  | 0 => ⟨S32x1024x4x4x64, .f32⟩
  | 1 => ⟨S_, .f32⟩
  | 2 => ⟨S32x1024x4x64, .f32⟩
  | 3 => ⟨S32x1024x4x1, .f32⟩
  | 4 => ⟨S32x1024x4x64, .f32⟩
  | 5 => ⟨S32x1024x4x64, .f32⟩
  | 6 => ⟨S_, .f32⟩
  | 7 => ⟨S32x1024x64, .f32⟩
  | 8 => ⟨S2x16x1024x64, .f32⟩
  | 9 => ⟨S2x1024x16x64, .f32⟩
  | 10 => ⟨S2x1024x1024, .f32⟩
  | 11 => ⟨S1024x1024, .f32⟩
  | 12 => ⟨S2x1024x1024, .f32⟩
  | 13 => ⟨S1x1x1024, .f32⟩
  | 14 => ⟨S2x1024x1024, .f32⟩
  | 15 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_4 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_values : Ref sig .tc := ⟨.hbm, 70, rfl⟩
abbrev main_indices : Ref sig .tc := ⟨.hbm, 71, rfl⟩
abbrev main_c : Ref sig .tc := ⟨.hbm, 72, rfl⟩
abbrev main_v53 : Ref sig .tc := ⟨.hbm, 73, rfl⟩
abbrev main_v54 : Ref sig .tc := ⟨.hbm, 74, rfl⟩
abbrev main_c_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_v66 : Ref sig .tc := ⟨.hbm, 89, rfl⟩
abbrev main_v67 : Ref sig .tc := ⟨.hbm, 90, rfl⟩
abbrev main_call0_cst : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_9 : Ref sig .tc := ⟨.hbm, 98, rfl⟩
abbrev main_v73 : Ref sig .tc := ⟨.hbm, 99, rfl⟩
abbrev main_cst_10 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_12 : Ref sig .tc := ⟨.hbm, 113, rfl⟩
abbrev main_v85 : Ref sig .tc := ⟨.hbm, 114, rfl⟩
abbrev main_v86 : Ref sig .tc := ⟨.hbm, 115, rfl⟩
abbrev main_c_13 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_14 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_15 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩

abbrev nD : Nat := 1
abbrev τ : Topo := Topo.v7x

variable {F : FTy → Type} [FloatOps F]
-- ==== Proof.KernelIdeal.KnnRegionRun.lean ====
/- The nearest-points region: the branch conditions, and the body run in each case. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.KnnRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether fetched there or kept from the point before. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, whether fetched there or kept from the point before. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, whether fetched there or kept from the point before. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, whether fetched there or kept from the point before. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, whether fetched there or kept from the point before. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A branch condition of the body at grid coordinates `i`. -/
abbrev cond_0 (i : grid1.Coords) : Prop := (Scalar.cmpi .ne (Scalar.extui (Scalar.cmpi .eq (BitVec.ofNat 32 (i 1).val) 0#32)) 0#32) = 1#1
/-- The branch condition in closed form over the points. -/
theorem hcond_0 : ∀ t : Fin cfg1.N, cond_0 (grid1.coords t) ↔ t.val % 4 = 0 :=
  (fun t => by
    have ht : t.val < 128 := Nat.lt_of_lt_of_eq t.isLt N_1
    have e0 : (grid1.coords t 0).val = t.val / 4 % 32 := Pipeline.Grid.coords_val t 0 (by decide) rfl
    have e1 : (grid1.coords t 1).val = t.val / 1 % 4 := Pipeline.Grid.coords_val t 1 (by decide) rfl
    simp only [cond_0, e0, e1]
    word_cmp
   : ∀ t : Fin grid1.N, cond_0 (grid1.coords t) ↔ t.val % 4 = 0)

/-- A branch condition of the body at grid coordinates `i`. -/
abbrev cond_1 (i : grid1.Coords) : Prop := k1_cond2 i = 1#1
/-- The branch condition in closed form over the points. -/
theorem hcond_1 : ∀ t : Fin cfg1.N, cond_1 (grid1.coords t) ↔ t.val % 4 = 0 :=
  (fun t => by
    have ht : t.val < 128 := Nat.lt_of_lt_of_eq t.isLt N_1
    have e0 : (grid1.coords t 0).val = t.val / 4 % 32 := Pipeline.Grid.coords_val t 0 (by decide) rfl
    have e1 : (grid1.coords t 1).val = t.val / 1 % 4 := Pipeline.Grid.coords_val t 1 (by decide) rfl
    simp only [cond_1, k1_cond2, e0, e1]
    word_cmp
   : ∀ t : Fin grid1.N, cond_1 (grid1.coords t) ↔ t.val % 4 = 0)

/-- A branch condition of the body at grid coordinates `i`. -/
abbrev cond_2 (i : grid1.Coords) : Prop := k1_cond3 i = 1#1
/-- The branch condition in closed form over the points. -/
theorem hcond_2 : ∀ t : Fin cfg1.N, cond_2 (grid1.coords t) ↔ 1 ≤ t.val % 4 :=
  (by decide +kernel : ∀ t : Fin grid1.N, cond_2 (grid1.coords t) ↔ 1 ≤ t.val % 4)

/-- The window is in use at these points. -/
theorem liveAt_0 : ∀ t : Fin cfg1.N, cfg1.idle 0 (grid1.coords t) = false := fun _ => rfl
/-- The window is in use at these points. -/
theorem liveAt_1 : ∀ t : Fin cfg1.N, cfg1.idle 1 (grid1.coords t) = false := fun _ => rfl
/-- The window is in use at these points. -/
theorem liveAt_2 : ∀ t : Fin cfg1.N, cfg1.idle 2 (grid1.coords t) = false := fun _ => rfl
/-- The window is in use at these points. -/
theorem liveAt_3 : ∀ t : Fin cfg1.N, cfg1.idle 3 (grid1.coords t) = false := fun _ => rfl
/-- The window is in use at these points. -/
theorem liveAt_4 : ∀ t : Fin cfg1.N, cfg1.idle 4 (grid1.coords t) = false := fun _ => rfl
/-- Whether the output buffer holds nothing stored since its last write-back, position by position. -/
def freshTab_5 : ℕ → Bool
  | 0 => true
  | n + 1 => (0x88888888888888888888888888888888 : ℕ).testBit n
/-- The table follows the configuration's own step. -/
theorem freshTab_5_step : ∀ t : Fin cfg1.N,
    freshTab_5 (t.val + 1) = ((cfg1.win 5).flush t || (cfg1.idle 5 (cfg1.grid.coords t) && freshTab_5 t.val)) := by decide +kernel
/-- The table is the configuration's freshness. -/
theorem fresh_5_eq (t : Fin cfg1.N) : cfg1.fresh 5 t.val = freshTab_5 t.val :=
  Pipeline.Cfg.fresh_tab cfg1 5 freshTab_5 rfl freshTab_5_step t.val (Nat.le_of_lt t.isLt)
/-- The window is in use at these points. -/
theorem liveAt_5_A : ∀ t : Fin cfg1.N, cond_0 (grid1.coords t) → cond_1 (grid1.coords t) → ¬cond_2 (grid1.coords t) → cfg1.idle 5 (grid1.coords t) = false := by decide +kernel
/-- The window is in use at these points. -/
theorem liveAt_5_B : ∀ t : Fin cfg1.N, ¬cond_0 (grid1.coords t) → ¬cond_1 (grid1.coords t) → cond_2 (grid1.coords t) → cfg1.idle 5 (grid1.coords t) = false := by decide +kernel
/-- At an accumulating point the output buffer holds the point before's contents. -/
theorem notFresh_5_B : ∀ t : Fin cfg1.N, ¬cond_0 (grid1.coords t) → ¬cond_1 (grid1.coords t) → cond_2 (grid1.coords t) → cfg1.fresh 5 t.val = false := by
  intro t; rw [fresh_5_eq t]; revert t; decide +kernel

/-- A staging buffer of the output, through which its contents are stated. -/
abbrev VO_5 : View sig .tc .vmem S1x1x1024x64 .f32 := (Memref.whole cc1_stg5_0 : Memref sig .tc .vmem S1x1x1024x64 .f32).view
abbrev ms_0 (t : Fin cfg1.N) : Memref sig .tc .smem S1x1 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x1x1024x2 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1x1024x4 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x3x1024 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1x1x1024x64 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1x1x1024x64 .f32 := win1_5.stage (cfg1.slots t 5)
abbrev hs_5 (t : Fin cfg1.N) : (ms_5 t).IsWhole := hstage1_5 ((cfg1.slots t 5).cast nbuf1_5)
abbrev scM_0 : Memref sig .tc .vmem S1024x65 .f32 := Memref.whole cc1_scratch0
/-- The scratch buffer, through which its contents are stated. -/
abbrev VS_0 : View sig .tc .vmem S1024x65 .f32 := scM_0.view

/-- What the region holds beside its scratch buffer: the other scoped buffers, and the generator register. -/
def beside (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The invariant before the first point and after the last: the scratch buffer at any contents, and the rest. -/
theorem PhiA0_eq (c : Dev nD) :
    (Pipeline.ΦA spec1 c : sProp 𝕄) = iprop(iprop((∃ d, owns (c : Thread nD τ) scM_0 fullShare d)) ∗ beside c) := by
  unfold Pipeline.ΦA beside
  rw [Pipeline.scopedRest_split_of_list spec1 c [cc1_scratch0] (by decide) (by decide)]
  simp only [scM_0, owns_whole]
  exact equiv_iff.mp ⟨BI.sep_assoc, BI.sep_assoc'⟩

set_option maxHeartbeats 1000000 in
/-- The body at a first point of a round: the pieces its stores leave, with the run that leaves them. -/
noncomputable def kernelRun_A (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : cond_0 i) (hc1 : cond_1 i) (hc2 : ¬cond_2 i)
    (x0 : Vec F S1x1 .f32) (x1 : Vec F S1x1x1024x2 .f32) (x2 : Vec F S1x1x1024x4 .f32) (x3 : Vec F S1x3x1024 .f32) (x4 : Vec F S1x1x1024x64 .f32) :
    Σ' (L5 : List (View.Piece (Elt F) S1x1x1024x64 .f32)), { LS0 : List (View.Piece (Elt F) S1024x65 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__knn_body i arg2 harg2 arg3 harg3 arg4 harg4 arg5 harg5 arg6 harg6 arg7 harg7 arg8 harg8) K } := by
  refine ⟨?_, ?_, fun E K => ?run⟩
  case run =>
    simp only [cc1__knn_body_eq_skeleton]; unfold cc1__knn_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

set_option maxHeartbeats 1000000 in
/-- The body at a later point of a round, over the contents found: the pieces its stores leave, with the run that leaves them. -/
noncomputable def kernelRun_B (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : ¬cond_0 i) (hc1 : ¬cond_1 i) (hc2 : cond_2 i)
    (x0 : Vec F S1x1 .f32) (x1 : Vec F S1x1x1024x2 .f32) (x2 : Vec F S1x1x1024x4 .f32) (x3 : Vec F S1x3x1024 .f32) (x4 : Vec F S1x1x1024x64 .f32) (xo5 : Vec F S1x1x1024x64 .f32) (xs0 : Vec F S1024x65 .f32) :
    Σ' (L5 : List (View.Piece (Elt F) S1x1x1024x64 .f32)), { LS0 : List (View.Piece (Elt F) S1024x65 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0) -∗ K ⟨⟩))
          ⊢ wp frame (wpE (defs₀ (F := F)) Variants.none c none) E (cc1__knn_body i arg2 harg2 arg3 harg3 arg4 harg4 arg5 harg5 arg6 harg6 arg7 harg7 arg8 harg8) K } := by
  refine ⟨?_, [], fun E K => ?run⟩
  case run =>
    simp only [cc1__knn_body_eq_skeleton]; unfold cc1__knn_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; isplitr; · ipureintro; exact harg8.read_unread _
    iexact HS0

end Cert.KernelIdeal.KnnRegion

end
-- ==== Proof.KernelIdeal.KnnRegion.lean ====
/- The nearest-points region: what the buffers hold point by point, and the body obligation. -/
module

public import proofs.«01_k».proof.Proof.KernelIdeal.KnnRegionRun
public import Idealize.ShloMosaic.Lib.Claim

@[expose] public section

set_option maxRecDepth 16384

noncomputable section

namespace Cert.KernelIdeal.KnnRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stores of this case cover the whole block. -/
theorem cover_A_5 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : cond_0 i) (hc1 : cond_1 i) (hc2 : ¬cond_2 i)
    (x0 : Vec F S1x1 .f32) (x1 : Vec F S1x1x1024x2 .f32) (x2 : Vec F S1x1x1024x4 .f32) (x3 : Vec F S1x3x1024 .f32) (x4 : Vec F S1x1x1024x64 .f32) (y : S1x1x1024x64.Idx) :
    ∃ pc ∈ (kernelRun_A c i arg2 harg2 arg3 harg3 arg4 harg4 arg5 harg5 arg6 harg6 arg7 harg7 arg8 harg8 hc0 hc1 hc2 x0 x1 x2 x3 x4).1, y ∈ pc.1.set :=
  View.cover_of_tiledL (kernelRun_A c i arg2 harg2 arg3 harg3 arg4 harg4 arg5 harg5 arg6 harg6 arg7 harg7 arg8 harg8 hc0 hc1 hc2 x0 x1 x2 x3 x4).1 S1x1x1024x64.size (by sl_kernel_rfl) y

/-- What this case leaves in the buffer. -/
def out_A_5 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : cond_0 i) (hc1 : cond_1 i) (hc2 : ¬cond_2 i)
    (x0 : Vec F S1x1 .f32) (x1 : Vec F S1x1x1024x2 .f32) (x2 : Vec F S1x1x1024x4 .f32) (x3 : Vec F S1x3x1024 .f32) (x4 : Vec F S1x1x1024x64 .f32) : Vec F S1x1x1024x64 .f32 :=
  VO_5.read (Elt F) (VO_5.writes (Elt F) VO_5.junk (kernelRun_A c i arg2 harg2 arg3 harg3 arg4 harg4 arg5 harg5 arg6 harg6 arg7 harg7 arg8 harg8 hc0 hc1 hc2 x0 x1 x2 x3 x4).1)

/-- The stores of this case cover the whole block. -/
theorem scover_A_0 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : cond_0 i) (hc1 : cond_1 i) (hc2 : ¬cond_2 i)
    (x0 : Vec F S1x1 .f32) (x1 : Vec F S1x1x1024x2 .f32) (x2 : Vec F S1x1x1024x4 .f32) (x3 : Vec F S1x3x1024 .f32) (x4 : Vec F S1x1x1024x64 .f32) (y : S1024x65.Idx) :
    ∃ pc ∈ (kernelRun_A c i arg2 harg2 arg3 harg3 arg4 harg4 arg5 harg5 arg6 harg6 arg7 harg7 arg8 harg8 hc0 hc1 hc2 x0 x1 x2 x3 x4).2.1, y ∈ pc.1.set :=
  View.cover_of_tiledBy (kernelRun_A c i arg2 harg2 arg3 harg3 arg4 harg4 arg5 harg5 arg6 harg6 arg7 harg7 arg8 harg8 hc0 hc1 hc2 x0 x1 x2 x3 x4).2.1 ![1024, 1] (by sl_kernel_rfl) y

/-- What this case leaves in the buffer. -/
def sout_A_0 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : cond_0 i) (hc1 : cond_1 i) (hc2 : ¬cond_2 i)
    (x0 : Vec F S1x1 .f32) (x1 : Vec F S1x1x1024x2 .f32) (x2 : Vec F S1x1x1024x4 .f32) (x3 : Vec F S1x3x1024 .f32) (x4 : Vec F S1x1x1024x64 .f32) : Vec F S1024x65 .f32 :=
  VS_0.read (Elt F) (VS_0.writes (Elt F) VS_0.junk (kernelRun_A c i arg2 harg2 arg3 harg3 arg4 harg4 arg5 harg5 arg6 harg6 arg7 harg7 arg8 harg8 hc0 hc1 hc2 x0 x1 x2 x3 x4).2.1)

/-- The stores of this case cover the whole block. -/
theorem cover_B_5 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : ¬cond_0 i) (hc1 : ¬cond_1 i) (hc2 : cond_2 i)
    (x0 : Vec F S1x1 .f32) (x1 : Vec F S1x1x1024x2 .f32) (x2 : Vec F S1x1x1024x4 .f32) (x3 : Vec F S1x3x1024 .f32) (x4 : Vec F S1x1x1024x64 .f32) (xo5 : Vec F S1x1x1024x64 .f32) (xs0 : Vec F S1024x65 .f32) (y : S1x1x1024x64.Idx) :
    ∃ pc ∈ (kernelRun_B c i arg2 harg2 arg3 harg3 arg4 harg4 arg5 harg5 arg6 harg6 arg7 harg7 arg8 harg8 hc0 hc1 hc2 x0 x1 x2 x3 x4 xo5 xs0).1, y ∈ pc.1.set :=
  View.cover_of_tiledL (kernelRun_B c i arg2 harg2 arg3 harg3 arg4 harg4 arg5 harg5 arg6 harg6 arg7 harg7 arg8 harg8 hc0 hc1 hc2 x0 x1 x2 x3 x4 xo5 xs0).1 S1x1x1024x64.size (by sl_kernel_rfl) y

/-- What this case leaves in the buffer. -/
def out_B_5 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : ¬cond_0 i) (hc1 : ¬cond_1 i) (hc2 : cond_2 i)
    (x0 : Vec F S1x1 .f32) (x1 : Vec F S1x1x1024x2 .f32) (x2 : Vec F S1x1x1024x4 .f32) (x3 : Vec F S1x3x1024 .f32) (x4 : Vec F S1x1x1024x64 .f32) (xo5 : Vec F S1x1x1024x64 .f32) (xs0 : Vec F S1024x65 .f32) : Vec F S1x1x1024x64 .f32 :=
  VO_5.read (Elt F) (VO_5.writes (Elt F) VO_5.junk (kernelRun_B c i arg2 harg2 arg3 harg3 arg4 harg4 arg5 harg5 arg6 harg6 arg7 harg7 arg8 harg8 hc0 hc1 hc2 x0 x1 x2 x3 x4 xo5 xs0).1)

/-- What this case leaves in the buffer. -/
def sout_B_0 (c : Dev nD) (i : grid1.Coords) (arg2 : Memref sig .tc .smem S1x1 .f32) (harg2 : arg2.IsWhole) (arg3 : Memref sig .tc .vmem S1x1x1024x2 .f32) (harg3 : arg3.IsWhole) (arg4 : Memref sig .tc .vmem S1x1x1024x4 .f32) (harg4 : arg4.IsWhole) (arg5 : Memref sig .tc .vmem S1x3x1024 .f32) (harg5 : arg5.IsWhole) (arg6 : Memref sig .tc .vmem S1x1x1024x64 .f32) (harg6 : arg6.IsWhole) (arg7 : Memref sig .tc .vmem S1x1x1024x64 .f32) (harg7 : arg7.IsWhole) (arg8 : Memref sig .tc .vmem S1024x65 .f32) (harg8 : arg8.IsWhole) (hc0 : ¬cond_0 i) (hc1 : ¬cond_1 i) (hc2 : cond_2 i)
    (x0 : Vec F S1x1 .f32) (x1 : Vec F S1x1x1024x2 .f32) (x2 : Vec F S1x1x1024x4 .f32) (x3 : Vec F S1x3x1024 .f32) (x4 : Vec F S1x1x1024x64 .f32) (xo5 : Vec F S1x1x1024x64 .f32) (xs0 : Vec F S1024x65 .f32) : Vec F S1024x65 .f32 := xs0

/-- What the buffers hold after each point, by recursion on the point. -/
def outsAt (c : Dev nD) : (n : ℕ) → n < cfg1.N → Vec F S1x1x1024x64 .f32 × Vec F S1024x65 .f32
  | 0, hn => (out_A_5 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) ((hcond_0 ⟨0, hn⟩).mpr (Nat.zero_mod _)) ((hcond_1 ⟨0, hn⟩).mpr (Nat.zero_mod _)) (fun h => (fun h => by (try dsimp only at h); omega) ((hcond_2 ⟨0, hn⟩).mp h)) (iblk V c 0 ⟨0, hn⟩) (iblk V c 1 ⟨0, hn⟩) (iblk V c 2 ⟨0, hn⟩) (iblk V c 3 ⟨0, hn⟩) (iblk V c 4 ⟨0, hn⟩), sout_A_0 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) scM_0 (Memref.isWhole_whole _) ((hcond_0 ⟨0, hn⟩).mpr (Nat.zero_mod _)) ((hcond_1 ⟨0, hn⟩).mpr (Nat.zero_mod _)) (fun h => (fun h => by (try dsimp only at h); omega) ((hcond_2 ⟨0, hn⟩).mp h)) (iblk V c 0 ⟨0, hn⟩) (iblk V c 1 ⟨0, hn⟩) (iblk V c 2 ⟨0, hn⟩) (iblk V c 3 ⟨0, hn⟩) (iblk V c 4 ⟨0, hn⟩))
  | n + 1, hn =>
    if h0 : (n + 1) % 4 = 0 then
      if h1 : (n + 1) % 4 = 0 then
        if h2 : 1 ≤ (n + 1) % 4 then
          False.elim (by have hN : n + 1 < 128 := lt_of_lt_of_eq hn (show cfg1.N = 128 from N_1); omega)
        else
          (out_A_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) ((hcond_0 ⟨n + 1, hn⟩).mpr h0) ((hcond_1 ⟨n + 1, hn⟩).mpr h1) (fun h => h2 ((hcond_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩), sout_A_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) ((hcond_0 ⟨n + 1, hn⟩).mpr h0) ((hcond_1 ⟨n + 1, hn⟩).mpr h1) (fun h => h2 ((hcond_2 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩))
      else
        False.elim (by have hN : n + 1 < 128 := lt_of_lt_of_eq hn (show cfg1.N = 128 from N_1); omega)
    else
      if h1 : (n + 1) % 4 = 0 then
        False.elim (by have hN : n + 1 < 128 := lt_of_lt_of_eq hn (show cfg1.N = 128 from N_1); omega)
      else
        if h2 : 1 ≤ (n + 1) % 4 then
          (out_B_5 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).1 (outsAt c n (Nat.lt_of_succ_lt hn)).2, sout_B_0 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) scM_0 (Memref.isWhole_whole _) (fun h => h0 ((hcond_0 ⟨n + 1, hn⟩).mp h)) (fun h => h1 ((hcond_1 ⟨n + 1, hn⟩).mp h)) ((hcond_2 ⟨n + 1, hn⟩).mpr h2) (iblk V c 0 ⟨n + 1, hn⟩) (iblk V c 1 ⟨n + 1, hn⟩) (iblk V c 2 ⟨n + 1, hn⟩) (iblk V c 3 ⟨n + 1, hn⟩) (iblk V c 4 ⟨n + 1, hn⟩) (outsAt c n (Nat.lt_of_succ_lt hn)).1 (outsAt c n (Nat.lt_of_succ_lt hn)).2)
        else
          False.elim (by have hN : n + 1 < 128 := lt_of_lt_of_eq hn (show cfg1.N = 128 from N_1); omega)

/-- At a first point of a round. -/
theorem outsAt_A (c : Dev nD) (t : Fin cfg1.N) (h0 : t.val % 4 = 0) (h1 : t.val % 4 = 0) (h2 : ¬1 ≤ t.val % 4) :
    outsAt V c t.val t.isLt = (out_A_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) ((hcond_1 t).mpr h1) (fun h => h2 ((hcond_2 t).mp h)) (iblk V c 0 t) (iblk V c 1 t) (iblk V c 2 t) (iblk V c 3 t) (iblk V c 4 t), sout_A_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) ((hcond_0 t).mpr h0) ((hcond_1 t).mpr h1) (fun h => h2 ((hcond_2 t).mp h)) (iblk V c 0 t) (iblk V c 1 t) (iblk V c 2 t) (iblk V c 3 t) (iblk V c 4 t)) := by
  obtain ⟨n, hn⟩ := t
  cases n with
  | zero => exact rfl
  | succ n => exact (dif_pos h0).trans ((dif_pos h1).trans ((dif_neg h2).trans rfl))

/-- At a later point of a round, over what the point before left. -/
theorem outsAt_B (c : Dev nD) (t : Fin cfg1.N) (h0 : ¬t.val % 4 = 0) (h1 : ¬t.val % 4 = 0) (h2 : 1 ≤ t.val % 4) :
    outsAt V c t.val t.isLt = (out_B_5 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) (fun h => h1 ((hcond_1 t).mp h)) ((hcond_2 t).mpr h2) (iblk V c 0 t) (iblk V c 1 t) (iblk V c 2 t) (iblk V c 3 t) (iblk V c 4 t) (outsAt V c (t.val - 1) (Nat.lt_of_le_of_lt (Nat.sub_le _ _) t.isLt)).1 (outsAt V c (t.val - 1) (Nat.lt_of_le_of_lt (Nat.sub_le _ _) t.isLt)).2, sout_B_0 c (grid1.coords t) (ms_0 t) (hs_0 t) (ms_1 t) (hs_1 t) (ms_2 t) (hs_2 t) (ms_3 t) (hs_3 t) (ms_4 t) (hs_4 t) (ms_5 t) (hs_5 t) scM_0 (Memref.isWhole_whole _) (fun h => h0 ((hcond_0 t).mp h)) (fun h => h1 ((hcond_1 t).mp h)) ((hcond_2 t).mpr h2) (iblk V c 0 t) (iblk V c 1 t) (iblk V c 2 t) (iblk V c 3 t) (iblk V c 4 t) (outsAt V c (t.val - 1) (Nat.lt_of_le_of_lt (Nat.sub_le _ _) t.isLt)).1 (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- What holds between points: the scratch buffer at the contents carried there, and the generator register. -/
def PhiS (c : Dev nD) : (n : ℕ) → n ≤ cfg1.N → sProp 𝕄
  | 0, _ => Pipeline.ΦA spec1 c
  | n + 1, hn => iprop(iprop(owns (c : Thread nD τ) scM_0 fullShare ((outsAt V c n hn).2)) ∗ beside c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM_0 fullShare ((outsAt V c n hn).2)) ∗ beside c) := rfl

theorem PhiS_pos (c : Dev nD) (n : ℕ) (h : n ≤ cfg1.N) (hz : n ≠ 0) :
    PhiS V c n h = iprop(iprop(owns (c : Thread nD τ) scM_0 fullShare ((outsAt V c (n - 1) (by omega)).2)) ∗ beside c) := by
  cases n with
  | zero => exact absurd rfl hz
  | succ n => rfl

/-- The proof data of the region: arrays as found, inputs left in place, outputs accumulated, nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

/-- The arrays are the contents the region is entered with. -/
theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves in the window's buffer. -/
theorem after_0 (c : Dev nD) (t : Fin cfg1.N) : (dat V c).after 0 t = iblk V c 0 t := by dsimp only [dat]
/-- What the body leaves in the window's buffer. -/
theorem after_1 (c : Dev nD) (t : Fin cfg1.N) : (dat V c).after 1 t = iblk V c 1 t := by dsimp only [dat]
/-- What the body leaves in the window's buffer. -/
theorem after_2 (c : Dev nD) (t : Fin cfg1.N) : (dat V c).after 2 t = iblk V c 2 t := by dsimp only [dat]
/-- What the body leaves in the window's buffer. -/
theorem after_3 (c : Dev nD) (t : Fin cfg1.N) : (dat V c).after 3 t = iblk V c 3 t := by dsimp only [dat]
/-- What the body leaves in the window's buffer. -/
theorem after_4 (c : Dev nD) (t : Fin cfg1.N) : (dat V c).after 4 t = iblk V c 4 t := by dsimp only [dat]
/-- What the body leaves in the window's buffer. -/
theorem after_5 (c : Dev nD) (t : Fin cfg1.N) : (dat V c).after 5 t = (outsAt V c t.val t.isLt).1 := by dsimp only [dat]

/-- The input's buffer holds its block. -/
theorem before_0 (c : Dev nD) (t : Fin cfg1.N) (d) : (dat V c).before 0 t d = iblk V c 0 t :=
  before_0_of V (dat V c) (A_eq V c 0) (after_0 V c) t d
/-- The input's buffer holds its block. -/
theorem before_1 (c : Dev nD) (t : Fin cfg1.N) (d) : (dat V c).before 1 t d = iblk V c 1 t :=
  before_1_of V (dat V c) (A_eq V c 1) (after_1 V c) t d
/-- The input's buffer holds its block. -/
theorem before_2 (c : Dev nD) (t : Fin cfg1.N) (d) : (dat V c).before 2 t d = iblk V c 2 t :=
  before_2_of V (dat V c) (A_eq V c 2) (after_2 V c) t d
/-- The input's buffer holds its block. -/
theorem before_3 (c : Dev nD) (t : Fin cfg1.N) (d) : (dat V c).before 3 t d = iblk V c 3 t :=
  before_3_of V (dat V c) (A_eq V c 3) (after_3 V c) t d
/-- The input's buffer holds its block. -/
theorem before_4 (c : Dev nD) (t : Fin cfg1.N) (d) : (dat V c).before 4 t d = iblk V c 4 t :=
  before_4_of V (dat V c) (A_eq V c 4) (after_4 V c) t d

/-- The output buffer's contents carry through idle points (there are none). -/
theorem hcarry_5 (c : Dev nD) : ∀ (t : Fin cfg1.N) (_ : t.val ≠ 0), cfg1.idle 5 (grid1.coords t) = true → cfg1.fresh 5 t.val = false →
    (dat V c).after 5 t = (dat V c).after 5 ⟨t.val - 1, by omega⟩ := by
  intro t _ hi _
  have hN : t.val < 128 := lt_of_lt_of_eq t.isLt (show cfg1.N = 128 from N_1)
  rw [after_5, after_5]
  by_cases h0 : t.val % 4 = 0
  · by_cases h1 : t.val % 4 = 0
    · by_cases h2 : 1 ≤ t.val % 4
      · exfalso; omega
      · rw [liveAt_5_A t ((hcond_0 t).mpr h0) ((hcond_1 t).mpr h1) (fun h => h2 ((hcond_2 t).mp h))] at hi
        exact absurd hi Bool.false_ne_true
    · exfalso; omega
  · by_cases h1 : t.val % 4 = 0
    · exfalso; omega
    · by_cases h2 : 1 ≤ t.val % 4
      · rw [liveAt_5_B t (fun h => h0 ((hcond_0 t).mp h)) (fun h => h1 ((hcond_1 t).mp h)) ((hcond_2 t).mpr h2)] at hi
        exact absurd hi Bool.false_ne_true
      · exfalso; omega
/-- At a later point of a round the output buffer holds what the point before left. -/
theorem before_5_B (c : Dev nD) (t : Fin cfg1.N) (h0 : ¬t.val % 4 = 0) (h1 : ¬t.val % 4 = 0) (h2 : 1 ≤ t.val % 4) (d) :
    (dat V c).before 5 t d = (outsAt V c (t.val - 1) (Nat.lt_of_le_of_lt (Nat.sub_le _ _) t.isLt)).1 := by
  rw [Dat.before_out_traj _ 5 rfl (fun _ _ => rfl) (hcarry_5 V c) t.val t rfl d,
    if_neg (by rw [notFresh_5_B t (fun h => h0 ((hcond_0 t).mp h)) (fun h => h1 ((hcond_1 t).mp h)) ((hcond_2 t).mpr h2)]; exact Bool.false_ne_true)]
  dsimp only [dat]

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

/-- What the body returns at point `t`. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 3200000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  have hN : t.val < 128 := lt_of_lt_of_eq t.isLt (show cfg1.N = 128 from N_1)
  by_cases h0 : t.val % 4 = 0
  · by_cases h1 : t.val % 4 = 0
    · by_cases h2 : 1 ≤ t.val % 4
      · exfalso; omega
      · rw [show (dat V c).leavesExact 0 t = owns (c : Thread nD τ) (ms_0 t) fullShare ((dat V c).after 0 t) from by
      unfold Dat.leavesExact; rw [liveAt_0 t], after_0]
        rw [show (dat V c).leavesExact 1 t = owns (c : Thread nD τ) (ms_1 t) fullShare ((dat V c).after 1 t) from by
      unfold Dat.leavesExact; rw [liveAt_1 t], after_1]
        rw [show (dat V c).leavesExact 2 t = owns (c : Thread nD τ) (ms_2 t) fullShare ((dat V c).after 2 t) from by
      unfold Dat.leavesExact; rw [liveAt_2 t], after_2]
        rw [show (dat V c).leavesExact 3 t = owns (c : Thread nD τ) (ms_3 t) fullShare ((dat V c).after 3 t) from by
      unfold Dat.leavesExact; rw [liveAt_3 t], after_3]
        rw [show (dat V c).leavesExact 4 t = owns (c : Thread nD τ) (ms_4 t) fullShare ((dat V c).after 4 t) from by
      unfold Dat.leavesExact; rw [liveAt_4 t], after_4]
        rw [show (dat V c).leavesExact 5 t = owns (c : Thread nD τ) (ms_5 t) fullShare ((dat V c).after 5 t) from by
      unfold Dat.leavesExact; rw [liveAt_5_A t ((hcond_0 t).mpr h0) ((hcond_1 t).mpr h1) (fun h => h2 ((hcond_2 t).mp h))], after_5]
        by_cases hz : t.val = 0
        · rw [PhiS_castSucc V c t, PhiS_zero V c _ _ hz, PhiA0_eq]
          rw [outsAt_A V c t h0 h1 h2]
          unfold out_A_5 sout_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun_A c (grid1.coords t) _ _ _ _ _ _ _ _ _ _ _ _ _ _ ((hcond_0 t).mpr h0) ((hcond_1 t).mpr h1) (fun h => h2 ((hcond_2 t).mp h)) (iblk V c 0 t) (iblk V c 1 t) (iblk V c 2 t) (iblk V c 3 t) (iblk V c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HS0 Hg]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover_A_5 c _ _ _ _ _ _ _ _ _ _ _ _ _ _ _ _ _ _ _ _ _ _ _)
        · rw [PhiS_castSucc V c t, PhiS_pos V c _ _ hz]
          rw [outsAt_A V c t h0 h1 h2]
          unfold out_A_5 sout_A_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun_A c (grid1.coords t) _ _ _ _ _ _ _ _ _ _ _ _ _ _ ((hcond_0 t).mpr h0) ((hcond_1 t).mpr h1) (fun h => h2 ((hcond_2 t).mp h)) (iblk V c 0 t) (iblk V c 1 t) (iblk V c 2 t) (iblk V c 3 t) (iblk V c 4 t)).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexists _; iexact HS0
          iintro ⟨H0, H1, H2, H3, H4, ⟨%e5, H5⟩, ⟨%es0, HS0⟩⟩
          isplitl [HS0 Hg]
          · isplitl [HS0]
            · unfold owns; iexists _; isplitr
              swap; · iexact HS0
              ipureintro; exact View.read_writes_of_cover _ _ _ _ _ (scover_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover_A_5 c _ _ _ _ _ _ _ _ _ _ _ _ _ _ _ _ _ _ _ _ _ _ _)
    · exfalso; omega
  · by_cases h1 : t.val % 4 = 0
    · exfalso; omega
    · by_cases h2 : 1 ≤ t.val % 4
      · rw [show (dat V c).leavesExact 0 t = owns (c : Thread nD τ) (ms_0 t) fullShare ((dat V c).after 0 t) from by
      unfold Dat.leavesExact; rw [liveAt_0 t], after_0]
        rw [show (dat V c).leavesExact 1 t = owns (c : Thread nD τ) (ms_1 t) fullShare ((dat V c).after 1 t) from by
      unfold Dat.leavesExact; rw [liveAt_1 t], after_1]
        rw [show (dat V c).leavesExact 2 t = owns (c : Thread nD τ) (ms_2 t) fullShare ((dat V c).after 2 t) from by
      unfold Dat.leavesExact; rw [liveAt_2 t], after_2]
        rw [show (dat V c).leavesExact 3 t = owns (c : Thread nD τ) (ms_3 t) fullShare ((dat V c).after 3 t) from by
      unfold Dat.leavesExact; rw [liveAt_3 t], after_3]
        rw [show (dat V c).leavesExact 4 t = owns (c : Thread nD τ) (ms_4 t) fullShare ((dat V c).after 4 t) from by
      unfold Dat.leavesExact; rw [liveAt_4 t], after_4]
        rw [show (dat V c).leavesExact 5 t = owns (c : Thread nD τ) (ms_5 t) fullShare ((dat V c).after 5 t) from by
      unfold Dat.leavesExact; rw [liveAt_5_B t (fun h => h0 ((hcond_0 t).mp h)) (fun h => h1 ((hcond_1 t).mp h)) ((hcond_2 t).mpr h2)], after_5]
        by_cases hz : t.val = 0
        · exfalso; have hN : t.val < 128 := lt_of_lt_of_eq t.isLt (show cfg1.N = 128 from N_1); omega
        · rw [PhiS_castSucc V c t, PhiS_pos V c _ _ hz]
          rw [outsAt_B V c t h0 h1 h2]
          simp only [before_5_B V c t h0 h1 h2]
          unfold out_B_5 sout_B_0; (try dsimp only)
          iintro ⟨⟨HS0, Hg⟩, Ho, ⟨%d0, H0⟩, ⟨%d1, H1⟩, ⟨%d2, H2⟩, ⟨%d3, H3⟩, ⟨%d4, H4⟩, ⟨%d5, H5⟩⟩
          iapply ((kernelRun_B c (grid1.coords t) _ _ _ _ _ _ _ _ _ _ _ _ _ _ (fun h => h0 ((hcond_0 t).mp h)) (fun h => h1 ((hcond_1 t).mp h)) ((hcond_2 t).mpr h2) (iblk V c 0 t) (iblk V c 1 t) (iblk V c 2 t) (iblk V c 3 t) (iblk V c 4 t) _ _).2.2 Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, ⟨%e5, H5⟩, HS0⟩
          isplitl [HS0 Hg]
          · isplitl [HS0]
            · iexact HS0
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover_B_5 c _ _ _ _ _ _ _ _ _ _ _ _ _ _ _ _ _ _ _ _ _ _ _ _ _)
      · exfalso; omega

/-- The row of the table of bodies at point `t`. -/
theorem defs₀_row (t : Fin cfg1.N) :
    defs₀ (F := F) .tc cfg1.body (cfg1.bodyArgs t (cfg1.slots t)) = bodyAt1 t := by
  unfold defs₀; rw [Defs.onTc_tc]

/-- The body obligation at every point. -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

theorem hout (c : Dev nD) : (dat V c).Φ (Fin.last cfg1.N) ⊢ Pipeline.ΦA spec1 c :=
  Phi_out V c _ (by rw [Fin.val_last]; have : cfg1.N = 128 := N_1; omega)

end Cert.KernelIdeal.KnnRegion

end
-- ==== Proof.KernelIdeal.OutRegionRun.lean ====
/- The output-projection region: the branch conditions, and the body run in each case. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

set_option maxRecDepth 16384

noncomputable section

namespace Cert.KernelIdeal.OutRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at point `t`, read off the array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether fetched there or kept from the point before. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, whether fetched there or kept from the point before. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's staging buffer holds its block at every point, whether fetched there or kept from the point before. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- A branch condition of the body at grid coordinates `i`. -/
abbrev cond_0 (i : grid2.Coords) : Prop := k2_cond1 i = 1#1
/-- The branch condition in closed form over the points. -/
theorem hcond_0 : ∀ t : Fin cfg2.N, cond_0 (grid2.coords t) ↔ t.val % 16 = 0 :=
  (fun t => by
    have ht : t.val < 32 := Nat.lt_of_lt_of_eq t.isLt N_2
    have e0 : (grid2.coords t 0).val = t.val / 16 % 2 := Pipeline.Grid.coords_val t 0 (by decide) rfl
    have e1 : (grid2.coords t 1).val = t.val / 1 % 16 := Pipeline.Grid.coords_val t 1 (by decide) rfl
    simp only [cond_0, k2_cond1, e0, e1]
    word_cmp
   : ∀ t : Fin grid2.N, cond_0 (grid2.coords t) ↔ t.val % 16 = 0)

/-- A branch condition of the body at grid coordinates `i`. -/
abbrev cond_1 (i : grid2.Coords) : Prop := k2_cond2 i = 1#1
/-- The branch condition in closed form over the points. -/
theorem hcond_1 : ∀ t : Fin cfg2.N, cond_1 (grid2.coords t) ↔ 1 ≤ t.val % 16 :=
  (by decide +kernel : ∀ t : Fin grid2.N, cond_1 (grid2.coords t) ↔ 1 ≤ t.val % 16)

/-- The window is in use at these points. -/
theorem liveAt_0 : ∀ t : Fin cfg2.N, cfg2.idle 0 (grid2.coords t) = false := fun _ => rfl
/-- The window is in use at these points. -/
theorem liveAt_1 : ∀ t : Fin cfg2.N, cfg2.idle 1 (grid2.coords t) = false := fun _ => rfl
/-- The window is in use at these points. -/
theorem liveAt_2 : ∀ t : Fin cfg2.N, cfg2.idle 2 (grid2.coords t) = false := fun _ => rfl
/-- Whether the output buffer holds nothing stored since its last write-back, position by position. -/
def freshTab_3 : ℕ → Bool
  | 0 => true
  | n + 1 => (0x80008000 : ℕ).testBit n
/-- The table follows the configuration's own step. -/
theorem freshTab_3_step : ∀ t : Fin cfg2.N,
    freshTab_3 (t.val + 1) = ((cfg2.win 3).flush t || (cfg2.idle 3 (cfg2.grid.coords t) && freshTab_3 t.val)) := by decide +kernel
/-- The table is the configuration's freshness. -/
theorem fresh_3_eq (t : Fin cfg2.N) : cfg2.fresh 3 t.val = freshTab_3 t.val :=
  Pipeline.Cfg.fresh_tab cfg2 3 freshTab_3 rfl freshTab_3_step t.val (Nat.le_of_lt t.isLt)
/-- The window is in use at these points. -/
theorem liveAt_3_A : ∀ t : Fin cfg2.N, cond_0 (grid2.coords t) → ¬cond_1 (grid2.coords t) → cfg2.idle 3 (grid2.coords t) = false := by decide +kernel
/-- The window is in use at these points. -/
theorem liveAt_3_B : ∀ t : Fin cfg2.N, ¬cond_0 (grid2.coords t) → cond_1 (grid2.coords t) → cfg2.idle 3 (grid2.coords t) = false := by decide +kernel
/-- At an accumulating point the output buffer holds the point before's contents. -/
theorem notFresh_3_B : ∀ t : Fin cfg2.N, ¬cond_0 (grid2.coords t) → cond_1 (grid2.coords t) → cfg2.fresh 3 t.val = false := by
  intro t; rw [fresh_3_eq t]; revert t; decide +kernel

/-- A staging buffer of the output, through which its contents are stated. -/
abbrev VO_3 : View sig .tc .vmem S1x1024x1024 .f32 := (Memref.whole cc2_stg3_0 : Memref sig .tc .vmem S1x1024x1024 .f32).view
abbrev ms_0 (t : Fin cfg2.N) : Memref sig .tc .vmem S1x1x1024x64 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S1x64x1024 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x1024 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x1024x1024 .f32 := win2_3.stage (cfg2.slots t 3)
abbrev hs_3 (t : Fin cfg2.N) : (ms_3 t).IsWhole := hstage2_3 ((cfg2.slots t 3).cast nbuf2_3)

set_option maxHeartbeats 1000000 in
/-- The body at a first point of a round: the pieces its stores leave, with the run that leaves them. -/
noncomputable def kernelRun_A (c : Dev nD) (i : grid2.Coords) (arg2 : Memref sig .tc .vmem S1x1x1024x64 .f32) (harg2 : arg2.IsWhole) (arg3 : Memref sig .tc .vmem S1x64x1024 .f32) (harg3 : arg3.IsWhole) (arg4 : Memref sig .tc .vmem S1x1024 .f32) (harg4 : arg4.IsWhole) (arg5 : Memref sig .tc .vmem S1x1024x1024 .f32) (harg5 : arg5.IsWhole) (hc0 : cond_0 i) (hc1 : ¬cond_1 i)
    (x0 : Vec F S1x1x1024x64 .f32) (x1 : Vec F S1x64x1024 .f32) (x2 : Vec F S1x1024 .f32) :
    { L3 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__out_body i arg2 harg2 arg3 harg3 arg4 harg4 arg5 harg5) K } := by
  refine ⟨?_, fun E K => ?run⟩
  case run =>
    simp only [cc2__out_body_eq_skeleton]; unfold cc2__out_body_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- The body at a later point of a round, over the contents found: the pieces its stores leave, with the run that leaves them. -/
noncomputable def kernelRun_B (c : Dev nD) (i : grid2.Coords) (arg2 : Memref sig .tc .vmem S1x1x1024x64 .f32) (harg2 : arg2.IsWhole) (arg3 : Memref sig .tc .vmem S1x64x1024 .f32) (harg3 : arg3.IsWhole) (arg4 : Memref sig .tc .vmem S1x1024 .f32) (harg4 : arg4.IsWhole) (arg5 : Memref sig .tc .vmem S1x1024x1024 .f32) (harg5 : arg5.IsWhole) (hc0 : ¬cond_0 i) (hc1 : cond_1 i)
    (x0 : Vec F S1x1x1024x64 .f32) (x1 : Vec F S1x64x1024 .f32) (x2 : Vec F S1x1024 .f32) (xo3 : Vec F S1x1024x1024 .f32) :
    { L3 : List (View.Piece (Elt F) S1x1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc2__out_body i arg2 harg2 arg3 harg3 arg4 harg4 arg5 harg5) K } := by
  refine ⟨?_, fun E K => ?run⟩
  case run =>
    simp only [cc2__out_body_eq_skeleton]; unfold cc2__out_body_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.OutRegion

end
-- ==== Proof.KernelIdeal.OutRegion.lean ====
/- The output-projection region: what the buffers hold point by point, and the body obligation. -/
module

public import proofs.«01_k».proof.Proof.KernelIdeal.OutRegionRun
public import Idealize.ShloMosaic.Lib.Claim

@[expose] public section

set_option maxRecDepth 16384

noncomputable section

namespace Cert.KernelIdeal.OutRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stores of this case cover the whole block. -/
theorem cover_A_3 (c : Dev nD) (i : grid2.Coords) (arg2 : Memref sig .tc .vmem S1x1x1024x64 .f32) (harg2 : arg2.IsWhole) (arg3 : Memref sig .tc .vmem S1x64x1024 .f32) (harg3 : arg3.IsWhole) (arg4 : Memref sig .tc .vmem S1x1024 .f32) (harg4 : arg4.IsWhole) (arg5 : Memref sig .tc .vmem S1x1024x1024 .f32) (harg5 : arg5.IsWhole) (hc0 : cond_0 i) (hc1 : ¬cond_1 i)
    (x0 : Vec F S1x1x1024x64 .f32) (x1 : Vec F S1x64x1024 .f32) (x2 : Vec F S1x1024 .f32) (y : S1x1024x1024.Idx) :
    ∃ pc ∈ (kernelRun_A c i arg2 harg2 arg3 harg3 arg4 harg4 arg5 harg5 hc0 hc1 x0 x1 x2).1, y ∈ pc.1.set :=
  View.cover_of_tiledL (kernelRun_A c i arg2 harg2 arg3 harg3 arg4 harg4 arg5 harg5 hc0 hc1 x0 x1 x2).1 S1x1024x1024.size (by sl_kernel_rfl) y

/-- What this case leaves in the buffer. -/
def out_A_3 (c : Dev nD) (i : grid2.Coords) (arg2 : Memref sig .tc .vmem S1x1x1024x64 .f32) (harg2 : arg2.IsWhole) (arg3 : Memref sig .tc .vmem S1x64x1024 .f32) (harg3 : arg3.IsWhole) (arg4 : Memref sig .tc .vmem S1x1024 .f32) (harg4 : arg4.IsWhole) (arg5 : Memref sig .tc .vmem S1x1024x1024 .f32) (harg5 : arg5.IsWhole) (hc0 : cond_0 i) (hc1 : ¬cond_1 i)
    (x0 : Vec F S1x1x1024x64 .f32) (x1 : Vec F S1x64x1024 .f32) (x2 : Vec F S1x1024 .f32) : Vec F S1x1024x1024 .f32 :=
  VO_3.read (Elt F) (VO_3.writes (Elt F) VO_3.junk (kernelRun_A c i arg2 harg2 arg3 harg3 arg4 harg4 arg5 harg5 hc0 hc1 x0 x1 x2).1)

/-- The stores of this case cover the whole block. -/
theorem cover_B_3 (c : Dev nD) (i : grid2.Coords) (arg2 : Memref sig .tc .vmem S1x1x1024x64 .f32) (harg2 : arg2.IsWhole) (arg3 : Memref sig .tc .vmem S1x64x1024 .f32) (harg3 : arg3.IsWhole) (arg4 : Memref sig .tc .vmem S1x1024 .f32) (harg4 : arg4.IsWhole) (arg5 : Memref sig .tc .vmem S1x1024x1024 .f32) (harg5 : arg5.IsWhole) (hc0 : ¬cond_0 i) (hc1 : cond_1 i)
    (x0 : Vec F S1x1x1024x64 .f32) (x1 : Vec F S1x64x1024 .f32) (x2 : Vec F S1x1024 .f32) (xo3 : Vec F S1x1024x1024 .f32) (y : S1x1024x1024.Idx) :
    ∃ pc ∈ (kernelRun_B c i arg2 harg2 arg3 harg3 arg4 harg4 arg5 harg5 hc0 hc1 x0 x1 x2 xo3).1, y ∈ pc.1.set :=
  View.cover_of_tiledL (kernelRun_B c i arg2 harg2 arg3 harg3 arg4 harg4 arg5 harg5 hc0 hc1 x0 x1 x2 xo3).1 S1x1024x1024.size (by sl_kernel_rfl) y

/-- What this case leaves in the buffer. -/
def out_B_3 (c : Dev nD) (i : grid2.Coords) (arg2 : Memref sig .tc .vmem S1x1x1024x64 .f32) (harg2 : arg2.IsWhole) (arg3 : Memref sig .tc .vmem S1x64x1024 .f32) (harg3 : arg3.IsWhole) (arg4 : Memref sig .tc .vmem S1x1024 .f32) (harg4 : arg4.IsWhole) (arg5 : Memref sig .tc .vmem S1x1024x1024 .f32) (harg5 : arg5.IsWhole) (hc0 : ¬cond_0 i) (hc1 : cond_1 i)
    (x0 : Vec F S1x1x1024x64 .f32) (x1 : Vec F S1x64x1024 .f32) (x2 : Vec F S1x1024 .f32) (xo3 : Vec F S1x1024x1024 .f32) : Vec F S1x1024x1024 .f32 :=
  VO_3.read (Elt F) (VO_3.writes (Elt F) VO_3.junk (kernelRun_B c i arg2 harg2 arg3 harg3 arg4 harg4 arg5 harg5 hc0 hc1 x0 x1 x2 xo3).1)

/-- What the buffers hold after each point, by recursion on the point. -/
def outsAt (c : Dev nD) : (n : ℕ) → n < cfg2.N → Vec F S1x1024x1024 .f32
  | 0, hn => out_A_3 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩)
  | n + 1, hn =>
    if h0 : (n + 1) % 16 = 0 then
      if h1 : 1 ≤ (n + 1) % 16 then
        False.elim (by have hN : n + 1 < 32 := lt_of_lt_of_eq hn (show cfg2.N = 32 from N_2); omega)
      else
        out_A_3 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) ((hcond_0 ⟨n + 1, hn⟩).mpr h0) (fun h => h1 ((hcond_1 ⟨n + 1, hn⟩).mp h)) (iblk V c 0 ⟨n + 1, hn⟩) (iblk V c 1 ⟨n + 1, hn⟩) (iblk V c 2 ⟨n + 1, hn⟩)
    else
      if h1 : 1 ≤ (n + 1) % 16 then
        out_B_3 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (fun h => h0 ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (outsAt c n (Nat.lt_of_succ_lt hn))
      else
        False.elim (by have hN : n + 1 < 32 := lt_of_lt_of_eq hn (show cfg2.N = 32 from N_2); omega)

/-- At a first point of a round. -/
theorem outsAt_A (c : Dev nD) (t : Fin cfg2.N) (h0 : t.val % 16 = 0) (h1 : ¬1 ≤ t.val % 16) :
    outsAt V c t.val t.isLt = out_A_3 c (grid2.coords t) (ms_0 t) (hs_0 t) (ms_1 t) (hs_1 t) (ms_2 t) (hs_2 t) (ms_3 t) (hs_3 t) ((hcond_0 t).mpr h0) (fun h => h1 ((hcond_1 t).mp h)) (iblk V c 0 t) (iblk V c 1 t) (iblk V c 2 t) := by
  obtain ⟨n, hn⟩ := t
  cases n with
  | zero => exact rfl
  | succ n => exact (dif_pos h0).trans ((dif_neg h1).trans rfl)

/-- At a later point of a round, over what the point before left. -/
theorem outsAt_B (c : Dev nD) (t : Fin cfg2.N) (h0 : ¬t.val % 16 = 0) (h1 : 1 ≤ t.val % 16) :
    outsAt V c t.val t.isLt = out_B_3 c (grid2.coords t) (ms_0 t) (hs_0 t) (ms_1 t) (hs_1 t) (ms_2 t) (hs_2 t) (ms_3 t) (hs_3 t) (fun h => h0 ((hcond_0 t).mp h)) ((hcond_1 t).mpr h1) (iblk V c 0 t) (iblk V c 1 t) (iblk V c 2 t) (outsAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The proof data of the region: arrays as found, inputs left in place, outputs accumulated, nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt)
  Φ _ := Pipeline.ΦA spec2 c
  q _ := fullShare
  owed _ := 0

/-- The arrays are the contents the region is entered with. -/
theorem A_eq (c : Dev nD) (w : Fin cfg2.W) : (dat V c).A w = V c (Pipeline.arrRef spec2 w) := by
  dsimp only [dat]

/-- What the body leaves in the window's buffer. -/
theorem after_0 (c : Dev nD) (t : Fin cfg2.N) : (dat V c).after 0 t = iblk V c 0 t := by dsimp only [dat]
/-- What the body leaves in the window's buffer. -/
theorem after_1 (c : Dev nD) (t : Fin cfg2.N) : (dat V c).after 1 t = iblk V c 1 t := by dsimp only [dat]
/-- What the body leaves in the window's buffer. -/
theorem after_2 (c : Dev nD) (t : Fin cfg2.N) : (dat V c).after 2 t = iblk V c 2 t := by dsimp only [dat]
/-- What the body leaves in the window's buffer. -/
theorem after_3 (c : Dev nD) (t : Fin cfg2.N) : (dat V c).after 3 t = (outsAt V c t.val t.isLt) := by dsimp only [dat]

/-- The input's buffer holds its block. -/
theorem before_0 (c : Dev nD) (t : Fin cfg2.N) (d) : (dat V c).before 0 t d = iblk V c 0 t :=
  before_0_of V (dat V c) (A_eq V c 0) (after_0 V c) t d
/-- The input's buffer holds its block. -/
theorem before_1 (c : Dev nD) (t : Fin cfg2.N) (d) : (dat V c).before 1 t d = iblk V c 1 t :=
  before_1_of V (dat V c) (A_eq V c 1) (after_1 V c) t d
/-- The input's buffer holds its block. -/
theorem before_2 (c : Dev nD) (t : Fin cfg2.N) (d) : (dat V c).before 2 t d = iblk V c 2 t :=
  before_2_of V (dat V c) (A_eq V c 2) (after_2 V c) t d

/-- The output buffer's contents carry through idle points (there are none). -/
theorem hcarry_3 (c : Dev nD) : ∀ (t : Fin cfg2.N) (_ : t.val ≠ 0), cfg2.idle 3 (grid2.coords t) = true → cfg2.fresh 3 t.val = false →
    (dat V c).after 3 t = (dat V c).after 3 ⟨t.val - 1, by omega⟩ := by
  intro t _ hi _
  have hN : t.val < 32 := lt_of_lt_of_eq t.isLt (show cfg2.N = 32 from N_2)
  rw [after_3, after_3]
  by_cases h0 : t.val % 16 = 0
  · by_cases h1 : 1 ≤ t.val % 16
    · exfalso; omega
    · rw [liveAt_3_A t ((hcond_0 t).mpr h0) (fun h => h1 ((hcond_1 t).mp h))] at hi
      exact absurd hi Bool.false_ne_true
  · by_cases h1 : 1 ≤ t.val % 16
    · rw [liveAt_3_B t (fun h => h0 ((hcond_0 t).mp h)) ((hcond_1 t).mpr h1)] at hi
      exact absurd hi Bool.false_ne_true
    · exfalso; omega
/-- At a later point of a round the output buffer holds what the point before left. -/
theorem before_3_B (c : Dev nD) (t : Fin cfg2.N) (h0 : ¬t.val % 16 = 0) (h1 : 1 ≤ t.val % 16) (d) :
    (dat V c).before 3 t d = (outsAt V c (t.val - 1) (Nat.lt_of_le_of_lt (Nat.sub_le _ _) t.isLt)) := by
  rw [Dat.before_out_traj _ 3 rfl (fun _ _ => rfl) (hcarry_3 V c) t.val t rfl d,
    if_neg (by rw [notFresh_3_B t (fun h => h0 ((hcond_0 t).mp h)) ((hcond_1 t).mpr h1)]; exact Bool.false_ne_true)]
  dsimp only [dat]

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- What the body returns at point `t`. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 800000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl]
  have hN : t.val < 32 := lt_of_lt_of_eq t.isLt (show cfg2.N = 32 from N_2)
  by_cases h0 : t.val % 16 = 0
  · by_cases h1 : 1 ≤ t.val % 16
    · exfalso; omega
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3_A t ((hcond_0 t).mpr h0) (fun h => h1 ((hcond_1 t).mp h))], after_3]
      rw [outsAt_A V c t h0 h1]
      unfold out_A_3
      iintro ⟨HΦ, Ho, ⟨%d0, H0⟩, ⟨%d1, H1⟩, ⟨%d2, H2⟩, ⟨%d3, H3⟩⟩
      iapply ((kernelRun_A c (grid2.coords t) _ _ _ _ _ _ _ _ ((hcond_0 t).mpr h0) (fun h => h1 ((hcond_1 t).mp h)) (iblk V c 0 t) (iblk V c 1 t) (iblk V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_A_3 c _ _ _ _ _ _ _ _ _ _ _ _ _ _)
  · by_cases h1 : 1 ≤ t.val % 16
    · rw [show (dat V c).leavesExact 0 t = owns (c : Thread nD τ) (ms_0 t) fullShare ((dat V c).after 0 t) from by
      unfold Dat.leavesExact; rw [liveAt_0 t], after_0]
      rw [show (dat V c).leavesExact 1 t = owns (c : Thread nD τ) (ms_1 t) fullShare ((dat V c).after 1 t) from by
      unfold Dat.leavesExact; rw [liveAt_1 t], after_1]
      rw [show (dat V c).leavesExact 2 t = owns (c : Thread nD τ) (ms_2 t) fullShare ((dat V c).after 2 t) from by
      unfold Dat.leavesExact; rw [liveAt_2 t], after_2]
      rw [show (dat V c).leavesExact 3 t = owns (c : Thread nD τ) (ms_3 t) fullShare ((dat V c).after 3 t) from by
      unfold Dat.leavesExact; rw [liveAt_3_B t (fun h => h0 ((hcond_0 t).mp h)) ((hcond_1 t).mpr h1)], after_3]
      rw [outsAt_B V c t h0 h1]
      simp only [before_3_B V c t h0 h1]
      unfold out_B_3
      iintro ⟨HΦ, Ho, ⟨%d0, H0⟩, ⟨%d1, H1⟩, ⟨%d2, H2⟩, ⟨%d3, H3⟩⟩
      iapply ((kernelRun_B c (grid2.coords t) _ _ _ _ _ _ _ _ (fun h => h0 ((hcond_0 t).mp h)) ((hcond_1 t).mpr h1) (iblk V c 0 t) (iblk V c 1 t) (iblk V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_B_3 c _ _ _ _ _ _ _ _ _ _ _ _ _ _ _)
    · exfalso; omega

/-- The row of the table of bodies at point `t`. -/
theorem defs₀_row (t : Fin cfg2.N) :
    defs₀ (F := F) .tc cfg2.body (cfg2.bodyArgs t (cfg2.slots t)) = bodyAt2 t := by
  unfold defs₀; rw [Defs.onTc_tc]

/-- The body obligation at every point. -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.OutRegion

end
-- ==== Proof.KernelIdeal.Launch.lean ====
/- The whole program: the buffers' contents between its items, its three regions as segments, and its run. -/
module

public import proofs.«01_k».proof.Proof.Gen.KernelIdeal.Regions
public import proofs.«01_k».proof.Proof.Gen.Own.KernelIdeal.K0.Frame
public import proofs.«01_k».proof.Proof.KernelIdeal.KnnRegion
public import proofs.«01_k».proof.Proof.KernelIdeal.OutRegion
public import Idealize.ShloMosaic.Lib.Pipeline.RegionArraysS

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- A device valuation as contents of the core's references. -/
abbrev refsOf (W : Dev nD → Valuation τ sig (Elt F)) (c : Dev nD) (b : Ref sig .tc) : Buf (Elt F) ((c : Thread nD τ).loc b) := W c b

variable (m : (ℓ : Loc nD τ sig) → Buf (Elt F) ℓ) (ρ : Dev nD → PrngReg)

/-- The buffers when the projection region is entered. -/
def U1 (c : Dev nD) : Valuation τ sig (Elt F) := StableHlo.after hostOps0 (V0 m c)
/-- The projection region's proof data. -/
def dat0 (c : Dev nD) : Dat τ (Elt F) Unit ℕ (UR sig nD τ) ℕ cfg0 c := Own.K0.dat Variants.none (refsOf (U1 m)) 0 c
/-- The buffers after the projection region. -/
def U2 (c : Dev nD) : Valuation τ sig (Elt F) := Pipeline.afterRegion (dat0 m c) (U1 m c)
/-- The buffers when the nearest-points region is entered. -/
def U3 (c : Dev nD) : Valuation τ sig (Elt F) := StableHlo.after hostOps1 (U2 m c)
/-- The nearest-points region's proof data. -/
def dat1 (c : Dev nD) : Dat τ (Elt F) Unit ℕ (UR sig nD τ) ℕ cfg1 c := KnnRegion.dat (refsOf (U3 m)) c
/-- The buffers after the nearest-points region. -/
def U4 (c : Dev nD) : Valuation τ sig (Elt F) := Pipeline.afterRegion (dat1 m c) (U3 m c)
/-- The buffers when the output region is entered. -/
def U5 (c : Dev nD) : Valuation τ sig (Elt F) := StableHlo.after hostOps2 (U4 m c)
/-- The output region's proof data. -/
def dat2 (c : Dev nD) : Dat τ (Elt F) Unit ℕ (UR sig nD τ) ℕ cfg2 c := OutRegion.dat (refsOf (U5 m)) c
/-- The buffers at the end. -/
def U6 (c : Dev nD) : Valuation τ sig (Elt F) := Pipeline.afterRegion (dat2 m c) (U5 m c)

/-- The three regions' proof data. -/
def pdats : (p : Fin 3) → (c : Dev nD) → Dat τ (Elt F) Unit ℕ (UR sig nD τ) ℕ (cfgs p) c
  | 0 => dat0 m
  | 1 => dat1 m
  | 2 => dat2 m

/-- The staging semaphores of the cores carry the one index. -/
abbrev Lev : GSem nD τ sig → Finset Unit := fun g => if g.1.2 = .tc then {()} else ∅
/-- All at level zero. -/
abbrev lev : GSem nD τ sig → Unit → ℕ := fun _ _ => 0

/-- Nothing is owed, so every staging wait is below the cut. -/
theorem cut (p : Fin 3) : Pipeline.LevelCut (pcfgs (F := F)) adm () Lev lev p (0 : Dev nD → CellTallies nD τ sig Unit) (fun _ => 0) where
  hι _ _ _ := by simp [Lev]
  hιb _ _ _ := le_refl _
  hD _ _ _ h := absurd h (lt_irrefl _)

/-- The generator register at some state: what rides between the segments beside the buffers. -/
abbrev gen (c : Dev nD) : sProp 𝕄 := iprop(∃ r, prngReg c r)
/-- The rest of the thread state between the segments. -/
abbrev rest (c : Dev nD) : sProp 𝕄 := iprop((∃ W, owes (c : Thread nD τ) (0 : CellTallies nD τ sig Unit) W) ∗ gen c ∗ emp)

set_option backward.isDefEq.respectTransparency.types false in
/-- The projection region as a segment. -/
def reg0 : RegionSeg (pcfgs (F := F)) adm (pdats m) () defs₀ Variants.none Lev lev 0 :=
  RegionSeg.ofHeldIn (pcfgs (F := F)) adm (pdats m) () defs₀ Variants.none Lev lev 0 0 (Pipeline.ucRefs τ sig) gen gen launch0.toP rfl
    (fun c => (Own.K0.body_obligation Variants.none (refsOf (U1 m)) 0 () c).loose) (fun _ _ => rfl) (fun _ => rfl)
    (fun c => (dat0 m c).share_full fun _ => rfl) (fun _ => .rfl) (fun _ => .rfl) _ (cut 0) (fun _ => iprop(emp)) (U1 m) (fun _ _ => rfl)

set_option backward.isDefEq.respectTransparency.types false in
/-- The nearest-points region as a segment. -/
def reg1 : RegionSeg (pcfgs (F := F)) adm (pdats m) () defs₀ Variants.none Lev lev 1 :=
  RegionSeg.ofHeldIn (pcfgs (F := F)) adm (pdats m) () defs₀ Variants.none Lev lev 1 0 (Pipeline.ucRefs τ sig) gen gen launch1.toP rfl
    (fun c => (KnnRegion.body_obligation (refsOf (U3 m)) c).loose) (fun _ _ => rfl) (fun _ => rfl)
    (fun c => (dat1 m c).share_full fun _ => rfl) (fun c => KnnRegion.hin (refsOf (U3 m)) c) (fun c => KnnRegion.hout (refsOf (U3 m)) c) _ (cut 1)
    (fun _ => iprop(emp)) (U3 m) (fun _ _ => rfl)

set_option backward.isDefEq.respectTransparency.types false in
/-- The output region as a segment. -/
def reg2 : RegionSeg (pcfgs (F := F)) adm (pdats m) () defs₀ Variants.none Lev lev 2 :=
  RegionSeg.ofHeldIn (pcfgs (F := F)) adm (pdats m) () defs₀ Variants.none Lev lev 2 0 (Pipeline.ucRefs τ sig) gen gen launch2.toP rfl
    (fun c => (OutRegion.body_obligation (refsOf (U5 m)) c).loose) (fun _ _ => rfl) (fun _ => rfl)
    (fun c => (dat2 m c).share_full fun _ => rfl) (fun _ => .rfl) (fun _ => .rfl) _ (cut 2) (fun _ => iprop(emp)) (U5 m) (fun _ _ => rfl)

/-- The host operations before the first region as a segment. -/
def host0 : HostSeg (Ix := Unit) (Name := ℕ) (U := UR sig nD τ) (Lvl := ℕ) (pcfgs (F := F)) defs₀ Variants.none Lev lev :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
/-- The host operations between the first two regions. -/
def host1 : HostSeg (Ix := Unit) (Name := ℕ) (U := UR sig nD τ) (Lvl := ℕ) (pcfgs (F := F)) defs₀ Variants.none Lev lev :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) rest
/-- The host operations between the last two regions. -/
def host2 : HostSeg (Ix := Unit) (Name := ℕ) (U := UR sig nD τ) (Lvl := ℕ) (pcfgs (F := F)) defs₀ Variants.none Lev lev :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) rest

/-- The program's items in order. -/
abbrev items : List (Seg (pcfgs (F := F)) adm (pdats m) () defs₀ Variants.none Lev lev) :=
  [.host (host0 m), .region (reg0 m), .host (host1 m), .region (reg1 m), .host (host2 m), .region (reg2 m)]

/-- The arrays of each region are among the buffers held. -/
theorem arrs0 : Pipeline.arrRefs (τ := τ) spec0 ⊆ Pipeline.ucRefs τ sig := by decide
theorem arrs1 : Pipeline.arrRefs (τ := τ) spec1 ⊆ Pipeline.ucRefs τ sig := by decide
theorem arrs2 : Pipeline.arrRefs (τ := τ) spec2 ⊆ Pipeline.ucRefs τ sig := by decide

set_option backward.isDefEq.respectTransparency.types false in
/-- The projection region is entered from the buffers at `U1` -/
theorem pre0 (c : Dev nD) : iprop(StableHlo.held (c : Thread nD τ) (Pipeline.ucRefs τ sig) (U1 m c) ∗ rest c) ⊢ (reg0 m).pre c := by
  unfold reg0; exact RegionSeg.ofHeldIn_pre (pcs := pcfgs (F := F)) (a := adm) (pdats := pdats m) (D := 0) (X := gen) (Y := gen) (R := fun _ => iprop(emp)) (W := U1 m) (p := (0 : Fin 3)) (S := Pipeline.ucRefs τ sig) arrs0 c

set_option backward.isDefEq.respectTransparency.types false in
/-- and left at `U2`. -/
theorem post0 (c : Dev nD) : (reg0 m).post c ⊢ iprop(StableHlo.held (c : Thread nD τ) (Pipeline.ucRefs τ sig) (U2 m c) ∗ rest c) := by
  unfold reg0; exact RegionSeg.ofHeldIn_post (pcs := pcfgs (F := F)) (a := adm) (pdats := pdats m) (p := (0 : Fin 3)) (S := Pipeline.ucRefs τ sig) arrs0 c

set_option backward.isDefEq.respectTransparency.types false in
/-- The nearest-points region is entered from the buffers at `U3` -/
theorem pre1 (c : Dev nD) : iprop(StableHlo.held (c : Thread nD τ) (Pipeline.ucRefs τ sig) (U3 m c) ∗ rest c) ⊢ (reg1 m).pre c := by
  unfold reg1; exact RegionSeg.ofHeldIn_pre (pcs := pcfgs (F := F)) (a := adm) (pdats := pdats m) (D := 0) (X := gen) (Y := gen) (R := fun _ => iprop(emp)) (W := U3 m) (p := (1 : Fin 3)) (S := Pipeline.ucRefs τ sig) arrs1 c

set_option backward.isDefEq.respectTransparency.types false in
/-- and left at `U4`. -/
theorem post1 (c : Dev nD) : (reg1 m).post c ⊢ iprop(StableHlo.held (c : Thread nD τ) (Pipeline.ucRefs τ sig) (U4 m c) ∗ rest c) := by
  unfold reg1; exact RegionSeg.ofHeldIn_post (pcs := pcfgs (F := F)) (a := adm) (pdats := pdats m) (p := (1 : Fin 3)) (S := Pipeline.ucRefs τ sig) arrs1 c

set_option backward.isDefEq.respectTransparency.types false in
/-- The output region is entered from the buffers at `U5` -/
theorem pre2 (c : Dev nD) : iprop(StableHlo.held (c : Thread nD τ) (Pipeline.ucRefs τ sig) (U5 m c) ∗ rest c) ⊢ (reg2 m).pre c := by
  unfold reg2; exact RegionSeg.ofHeldIn_pre (pcs := pcfgs (F := F)) (a := adm) (pdats := pdats m) (D := 0) (X := gen) (Y := gen) (R := fun _ => iprop(emp)) (W := U5 m) (p := (2 : Fin 3)) (S := Pipeline.ucRefs τ sig) arrs2 c

set_option backward.isDefEq.respectTransparency.types false in
/-- and left at `U6`. -/
theorem post2 (c : Dev nD) : (reg2 m).post c ⊢ iprop(StableHlo.held (c : Thread nD τ) (Pipeline.ucRefs τ sig) (U6 m c) ∗ rest c) := by
  unfold reg2; exact RegionSeg.ofHeldIn_post (pcs := pcfgs (F := F)) (a := adm) (pdats := pdats m) (p := (2 : Fin 3)) (S := Pipeline.ucRefs τ sig) arrs2 c

set_option backward.isDefEq.respectTransparency.types false in
/-- THE RUN. From any memory whose semaphore counters are zero every fair execution of the program ends, every unscoped
    buffer of every core at `U6` and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = U6 m c b) ∧ r.2.sem = fun _ => 0) := by
  refine Pipeline.θ_run_regions_kit_dev_sems (pcfgs (F := F)) adm (pdats m) () cellOf_inj emb₁ defs₀ Variants.none Lev lev m ρ main
    (fun _ => items m)
    (fun c Q => by
      rewrite [main_chain c, Seg.run_eq_chain,
        show (items m).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()) ] from rfl]
      dsimp (config := { failIfUnchanged := false }) only
      exact .rfl)
    (fun c => by simp only [items, Seg.pipes_host, Seg.pipes_region, Seg.pipes_nil]; decide) (O₀ := 0) (hL := fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (U6 m c))
    (hch := fun c => ⟨.rfl, pre0 m c, post0 m c, pre1 m c, post1 m c, pre2 m c,
      (post2 m c).trans (sep_mono .rfl sep_elim_left)⟩)
    (hinit := ?_)
    (QY := fun c s => ∀ b ∈ Pipeline.ucRefs τ sig, s.mem ((c : Thread nD τ).1, b) = U6 m c b)
    (hfin := fun c s' => ?_) (hQ := fun _ h hz => ⟨h, funext fun g => hz g (.inr (regions_no_unscoped g.2))⟩)
  · refine Pipeline.initEach Lev lev fun c => ?_
    rw [Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (U6 m c) s') $$ [Hh HSI]
    · isplitl [Hh] <;> iassumption
    icases Hr with ⟨%h, HSI⟩
    imodintro
    isplitr
    · ipureintro; exact h
    · iexact HSI

/-- A region changes only the arrays its output windows write. -/
theorem U2_of (c : Dev nD) (r : Ref sig .tc) (h : ∀ w, Pipeline.arrRef spec0 w = r → (cfg0.win w).isOut = false) : U2 m c r = U1 m c r :=
  Pipeline.afterRegion_keeps (dat0 m c) (U1 m c) launch0.win.arr_inj (fun _ => rfl) r h
theorem U4_of (c : Dev nD) (r : Ref sig .tc) (h : ∀ w, Pipeline.arrRef spec1 w = r → (cfg1.win w).isOut = false) : U4 m c r = U3 m c r :=
  Pipeline.afterRegion_keeps (dat1 m c) (U3 m c) launch1.win.arr_inj (fun _ => rfl) r h
theorem U6_of (c : Dev nD) (r : Ref sig .tc) (h : ∀ w, Pipeline.arrRef spec2 w = r → (cfg2.win w).isOut = false) : U6 m c r = U5 m c r :=
  Pipeline.afterRegion_keeps (dat2 m c) (U5 m c) launch2.win.arr_inj (fun _ => rfl) r h
/-- A host stretch changes only what its operations write. -/
theorem U1_of (c : Dev nD) (r : Ref sig .tc) (h : r ∉ hostOps0_W) : U1 m c r = m ((c : Thread nD τ).loc r) :=
  StableHlo.after_of_writes_sub hostOps0 _ hostOps0_writes h
theorem U3_of (c : Dev nD) (r : Ref sig .tc) (h : r ∉ hostOps1_W) : U3 m c r = U2 m c r :=
  StableHlo.after_of_writes_sub hostOps1 _ hostOps1_writes h
theorem U5_of (c : Dev nD) (r : Ref sig .tc) (h : r ∉ hostOps2_W) : U5 m c r = U4 m c r :=
  StableHlo.after_of_writes_sub hostOps2 _ hostOps2_writes h

/-- A reference nothing writes ends as launched. -/
theorem U6_kept (c : Dev nD) (r : Ref sig .tc) (h0 : r ∉ hostOps0_W) (h1 : ∀ w, Pipeline.arrRef spec0 w = r → (cfg0.win w).isOut = false)
    (h2 : r ∉ hostOps1_W) (h3 : ∀ w, Pipeline.arrRef spec1 w = r → (cfg1.win w).isOut = false)
    (h4 : r ∉ hostOps2_W) (h5 : ∀ w, Pipeline.arrRef spec2 w = r → (cfg2.win w).isOut = false) : U6 m c r = m ((c : Thread nD τ).loc r) :=
  (U6_of m c r h5).trans ((U5_of m c r h4).trans ((U4_of m c r h3).trans ((U3_of m c r h2).trans ((U2_of m c r h1).trans (U1_of m c r h0)))))

/-- Every argument ends as launched, the result array at `U6`, every semaphore counter at zero. -/
theorem run_result : θ_run defs (onTc (τ := τ) (main (F := F))) ⟨m, fun _ => 0, ρ⟩ (fun r => (∀ c : Dev nD,
      r.2.mem ((c.tc : Thread nD τ).loc main_v29) = U6 m c main_v29
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) := by
  have key : ∀ (r : Ref sig .tc), r.isScoped = false → Proc.devRef .tc r ∈ Pipeline.ucRefs τ sig := fun r hr =>
    Finset.mem_filter.mpr ⟨StableHlo.devRef_mem_tcRefs r, fun h => Bool.false_ne_true (hr.symm.trans h)⟩
  refine (θ_run defs _ _).mono (fun r h => ⟨fun c => ⟨h.1 c _ (key main_v29 (by decide)), (h.1 c _ (key main_arg0 (by decide))).trans (U6_kept m c main_arg0 (by decide) (by decide) (by decide) (by decide) (by decide) (by decide)),
    (h.1 c _ (key main_arg1 (by decide))).trans (U6_kept m c main_arg1 (by decide) (by decide) (by decide) (by decide) (by decide) (by decide)),
    (h.1 c _ (key main_arg2 (by decide))).trans (U6_kept m c main_arg2 (by decide) (by decide) (by decide) (by decide) (by decide) (by decide)),
    (h.1 c _ (key main_arg3 (by decide))).trans (U6_kept m c main_arg3 (by decide) (by decide) (by decide) (by decide) (by decide) (by decide)),
    (h.1 c _ (key main_arg4 (by decide))).trans (U6_kept m c main_arg4 (by decide) (by decide) (by decide) (by decide) (by decide) (by decide)),
    (h.1 c _ (key main_arg5 (by decide))).trans (U6_kept m c main_arg5 (by decide) (by decide) (by decide) (by decide) (by decide) (by decide)),
    (h.1 c _ (key main_arg6 (by decide))).trans (U6_kept m c main_arg6 (by decide) (by decide) (by decide) (by decide) (by decide) (by decide)),
    (h.1 c _ (key main_arg7 (by decide))).trans (U6_kept m c main_arg7 (by decide) (by decide) (by decide) (by decide) (by decide) (by decide)),
    (h.1 c _ (key main_arg8 (by decide))).trans (U6_kept m c main_arg8 (by decide) (by decide) (by decide) (by decide) (by decide) (by decide)),
    (h.1 c _ (key main_arg9 (by decide))).trans (U6_kept m c main_arg9 (by decide) (by decide) (by decide) (by decide) (by decide) (by decide)),
    (h.1 c _ (key main_arg10 (by decide))).trans (U6_kept m c main_arg10 (by decide) (by decide) (by decide) (by decide) (by decide) (by decide))⟩, h.2⟩) (run m ρ)

/-- THE FRAME: every argument ends as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => (h.1 c).2, h.2⟩) (run_result m ρ)

end Cert.KernelIdeal.Whole

end
-- ==== Proof.KernelIdeal.Stretches.lean ====
/- What the host operations between the regions leave in the arrays the regions read, at an index. -/
module

public import proofs.«01_k».proof.Proof.KernelIdeal.Launch
public import Idealize.ShloMosaic.Lib.Pointwise

@[expose] public section

set_option maxRecDepth 16384

noncomputable section

namespace Cert.KernelIdeal.Stretches

open Idealize.ShloMosaic Idealize.ShloMosaic.TcCoe Idealize.SL.Sem
open Cert.KernelIdeal Cert.KernelIdeal.Gen

variable (W : Valuation τ sig (Elt Ideal))

theorem v0 (d : Fin 1024) (j : Fin 128) : (StableHlo.after hostOps0 W main_v0 : FVec Ideal S1024x128 .f32) (ix2 d j)
    = (W main_arg2 : FVec Ideal S128x1024 .f32) (ix2 j d) := by
  have e : StableHlo.after hostOps0 W main_v0 = transpose S1024x128 [1, 0] (W main_arg2 : FVec Ideal S128x1024 .f32) transposes_S128x1024_S1024x128_1_0 := by
    after_results
  rw [e]
  pointwise

theorem v1 (j : Fin 128) : (StableHlo.after hostOps0 W main_v1 : FVec Ideal S1x128 .f32) (ix2 0 j)
    = (W main_arg3 : FVec Ideal S128 .f32) (ix1 j) := by
  have e : StableHlo.after hostOps0 W main_v1 = broadcastInDim S1x128 ![1] bcast_S128_S1x128_1 (W main_arg3 : FVec Ideal S128 .f32) := by
    after_results
  rw [e]
  pointwise

theorem v2 (d : Fin 1024) (j : Fin 64) : (StableHlo.after hostOps0 W main_v2 : FVec Ideal S1024x64 .f32) (ix2 d j)
    = (W main_arg4 : FVec Ideal S64x1024 .f32) (ix2 j d) := by
  have e : StableHlo.after hostOps0 W main_v2 = transpose S1024x64 [1, 0] (W main_arg4 : FVec Ideal S64x1024 .f32) transposes_S64x1024_S1024x64_1_0 := by
    after_results
  rw [e]
  pointwise

theorem v3 (j : Fin 64) : (StableHlo.after hostOps0 W main_v3 : FVec Ideal S1x64 .f32) (ix2 0 j)
    = (W main_arg5 : FVec Ideal S64 .f32) (ix1 j) := by
  have e : StableHlo.after hostOps0 W main_v3 = broadcastInDim S1x64 ![1] bcast_S64_S1x64_1 (W main_arg5 : FVec Ideal S64 .f32) := by
    after_results
  rw [e]
  pointwise

theorem v4 (d : Fin 1024) (j : Fin 1024) : (StableHlo.after hostOps0 W main_v4 : FVec Ideal S1024x1024 .f32) (ix2 d j)
    = (W main_arg6 : FVec Ideal S1024x1024 .f32) (ix2 j d) := by
  have e : StableHlo.after hostOps0 W main_v4 = transpose S1024x1024 [1, 0] (W main_arg6 : FVec Ideal S1024x1024 .f32) transposes_S1024x1024_S1024x1024_1_0 := by
    after_results
  rw [e]
  pointwise

theorem v5 (j : Fin 1024) : (StableHlo.after hostOps0 W main_v5 : FVec Ideal S1x1024 .f32) (ix2 0 j)
    = (W main_arg7 : FVec Ideal S1024 .f32) (ix1 j) := by
  have e : StableHlo.after hostOps0 W main_v5 = broadcastInDim S1x1024 ![1] bcast_S1024_S1x1024_1 (W main_arg7 : FVec Ideal S1024 .f32) := by
    after_results
  rw [e]
  pointwise

/-- A coordinate's column of the positions. -/
def column (pos : FVec Ideal S2x1024x2 .f32) (e : Fin 2) : FVec Ideal S2x1024 .f32 := fun i => pos (ix3 (i 0) (i 1) e)

theorem column0 (pos : FVec Ideal S2x1024x2 .f32) :
    shapeCast S2x1024 (extractStridedSlice S2x1024x1 ![0, 0, 0] pos slices_S2x1024x2_S2x1024x1_0_0_0) shapeCasts_S2x1024x1_S2x1024 = column pos 0 := by
  funext i
  obtain ⟨b, n, rfl⟩ : ∃ (b : Fin 2) (n : Fin 1024), i = (ix2 b n : S2x1024.Idx) := ⟨i 0, i 1, by funext k; fin_cases k <;> rfl⟩
  pointwise [column]

theorem column1 (pos : FVec Ideal S2x1024x2 .f32) :
    shapeCast S2x1024 (extractStridedSlice S2x1024x1 ![0, 0, 1] pos slices_S2x1024x2_S2x1024x1_0_0_1) shapeCasts_S2x1024x1_S2x1024 = column pos 1 := by
  funext i
  obtain ⟨b, n, rfl⟩ : ∃ (b : Fin 2) (n : Fin 1024), i = (ix2 b n : S2x1024.Idx) := ⟨i 0, i 1, by funext k; fin_cases k <;> rfl⟩
  pointwise [column]

/-- The position table: the two coordinates and the squared norm, row upon row. -/
def stacked (pos : FVec Ideal S2x1024x2 .f32) : FVec Ideal S2x3x1024 .f32 :=
  concatenate S2x3x1024 1
    [⟨S2x1x1024, broadcastInDim S2x1x1024 ![0, 2] bcast_S2x1024_S2x1x1024_0_2 (column pos 0)⟩,
     ⟨S2x1x1024, broadcastInDim S2x1x1024 ![0, 2] bcast_S2x1024_S2x1x1024_0_2 (column pos 1)⟩,
     ⟨S2x1x1024, broadcastInDim S2x1x1024 ![0, 2] bcast_S2x1024_S2x1x1024_0_2
       (addf (mulf (column pos 0) (column pos 0)) (mulf (column pos 1) (column pos 1)))⟩]
    concatenates_S2x1x1024_S2x1x1024_S2x1x1024_S2x3x1024_d1

theorem v17 : StableHlo.after hostOps1 W main_v17 = stacked (W main_arg1) := by
  unfold stacked
  rw [← column0, ← column1]
  after_results_simp
  rfl

theorem stacked_0 (pos : FVec Ideal S2x1024x2 .f32) (b : Fin 2) (n : Fin 1024) : stacked pos (ix3 b 0 n) = pos (ix3 b n 0) := by
  pointwise [stacked, column]

theorem stacked_1 (pos : FVec Ideal S2x1024x2 .f32) (b : Fin 2) (n : Fin 1024) : stacked pos (ix3 b 1 n) = pos (ix3 b n 1) := by
  pointwise [stacked, column]

theorem stacked_2 (pos : FVec Ideal S2x1024x2 .f32) (b : Fin 2) (n : Fin 1024) :
    stacked pos (ix3 b 2 n) = pos (ix3 b n 0) * pos (ix3 b n 0) + pos (ix3 b n 1) * pos (ix3 b n 1) := by
  pointwise [stacked, column]

theorem v19 (b : Fin 2) (s : Fin 64) (n : Fin 1024) (e : Fin 2) :
    (StableHlo.after hostOps1 W main_v19 : FVec Ideal S2x64x1024x2 .f32) (ix4 b s n e)
      = (W main_v6_0 : FVec Ideal S2x1024x128 .f32) (ix3 b n ⟨2 * s.val + e.val, by omega⟩) := by
  have h : StableHlo.after hostOps1 W main_v19 = transpose S2x64x1024x2 [0, 2, 1, 3]
      (shapeCast S2x1024x64x2 (W main_v6_0 : FVec Ideal S2x1024x128 .f32) shapeCasts_S2x1024x128_S2x1024x64x2) transposes_S2x1024x64x2_S2x64x1024x2_0_2_1_3 := by
    after_results
    rfl
  rw [h]
  pointwise
  exact congrArg (fun q => (W main_v6_0 : FVec Ideal S2x1024x128 .f32) (ix3 b n q)) (Fin.ext (by show s.val * 2 + e.val = 2 * s.val + e.val; omega))

theorem v21 (b : Fin 2) (h : Fin 16) (n : Fin 1024) (k : Fin 4) :
    (StableHlo.after hostOps1 W main_v21 : FVec Ideal S2x16x1024x4 .f32) (ix4 b h n k)
      = (W main_v6_1 : FVec Ideal S2x1024x64 .f32) (ix3 b n ⟨h.val * 4 + k.val, by omega⟩) := by
  have e : StableHlo.after hostOps1 W main_v21 = transpose S2x16x1024x4 [0, 2, 1, 3]
      (shapeCast S2x1024x16x4 (W main_v6_1 : FVec Ideal S2x1024x64 .f32) shapeCasts_S2x1024x64_S2x1024x16x4) transposes_S2x1024x16x4_S2x16x1024x4_0_2_1_3 := by
    after_results
    rfl
  rw [e]
  pointwise

theorem v23 (b : Fin 2) (h : Fin 16) (n : Fin 1024) (l : Fin 64) :
    (StableHlo.after hostOps1 W main_v23 : FVec Ideal S2x16x1024x64 .f32) (ix4 b h n l)
      = (W main_v6_2 : FVec Ideal S2x1024x1024 .f32) (ix3 b n ⟨h.val * 64 + l.val, by omega⟩) := by
  have e : StableHlo.after hostOps1 W main_v23 = transpose S2x16x1024x64 [0, 2, 1, 3]
      (shapeCast S2x1024x16x64 (W main_v6_2 : FVec Ideal S2x1024x1024 .f32) shapeCasts_S2x1024x1024_S2x1024x16x64) transposes_S2x1024x16x64_S2x16x1024x64_0_2_1_3 := by
    after_results
    rfl
  rw [e]
  pointwise

theorem v24 : (StableHlo.after hostOps1 W main_v24 : FVec Ideal S1x1 .f32) (ix2 0 0) = (W main_arg10 : FVec Ideal S_ .f32) ix0 := by
  have e : StableHlo.after hostOps1 W main_v24 = shapeCast S1x1 (W main_arg10 : FVec Ideal S_ .f32) shapeCasts_S_S1x1 := by
    after_results
    rfl
  rw [e]
  pointwise

theorem v27 (h : Fin 16) (l : Fin 64) (o : Fin 1024) : (StableHlo.after hostOps2 W main_v27 : FVec Ideal S16x64x1024 .f32) (ix3 h l o)
    = (W main_arg8 : FVec Ideal S1024x1024 .f32) (ix2 o ⟨h.val * 64 + l.val, by omega⟩) := by
  have e : StableHlo.after hostOps2 W main_v27 = shapeCast S16x64x1024
      (transpose S1024x1024 [1, 0] (W main_arg8 : FVec Ideal S1024x1024 .f32) transposes_S1024x1024_S1024x1024_1_0) shapeCasts_S1024x1024_S16x64x1024 := by
    after_results
    rfl
  rw [e]
  pointwise

theorem v28 (o : Fin 1024) : (StableHlo.after hostOps2 W main_v28 : FVec Ideal S1x1024 .f32) (ix2 0 o)
    = (W main_arg9 : FVec Ideal S1024 .f32) (ix1 o) := by
  have e : StableHlo.after hostOps2 W main_v28 = broadcastInDim S1x1024 ![1] bcast_S1024_S1x1024_1 (W main_arg9 : FVec Ideal S1024 .f32) := by
    after_results
  rw [e]
  pointwise

end Cert.KernelIdeal.Stretches

end
-- ==== Proof.Shepard.Spec.lean ====
/- The quantities of the attention at one index, as extended reals, named once for the kernel and for the reference. -/
module

public import Idealize.ShloMosaic.Lib.Pointwise

@[expose] public section

noncomputable section

namespace Cert.Shepard

open Idealize.ShloMosaic Idealize.ShloMosaic.TcCoe

/-- One component of a linear layer applied to a token: the row of `x` against row `j` of `W`, plus the bias. -/
def linear {m : ℕ} (x : FVec Ideal ⟨3, ![2, 1024, 1024]⟩ .f32) (W : FVec Ideal ⟨2, ![m, 1024]⟩ .f32)
    (bias : FVec Ideal ⟨1, ![m]⟩ .f32) (b : Fin 2) (n : Fin 1024) (j : Fin m) : EReal :=
  (∑ d : Fin 1024, x (ix3 b n d) * W (ix2 j d)) + bias (ix1 j)

/-- Coordinate `e` of sampling location `l` of token `n`: the offset plus the token's own position. -/
def place (x : FVec Ideal ⟨3, ![2, 1024, 1024]⟩ .f32) (pos : FVec Ideal ⟨3, ![2, 1024, 2]⟩ .f32)
    (W : FVec Ideal ⟨2, ![128, 1024]⟩ .f32) (bias : FVec Ideal ⟨1, ![128]⟩ .f32) (b : Fin 2) (n : Fin 1024) (l : Fin 64)
    (e : Fin 2) : EReal :=
  linear x W bias b n ⟨2 * l.val + e.val, by omega⟩ + pos (ix3 b n e)

/-- The squared distance of location `s` to position `n`, expanded as both programs compute it. -/
def dist2 (s : Fin 2 → EReal) (P : Fin 1024 → Fin 2 → EReal) (n : Fin 1024) : EReal :=
  ((s 0 * s 0 + s 1 * s 1) + (P n 0 * P n 0 + P n 1 * P n 1))
    - Ideal.ofBits .f32 0x40000000#32 * (s 0 * P n 0 + s 1 * P n 1)

/-- The exponent's factor: the positive part of the given power, plus a millionth. -/
def power (p : EReal) : EReal := max p 0 + Ideal.ofBits .f32 0x358637BD#32

/-- The least of the values `d` that exceed `t`. -/
def above (d : Fin 1024 → EReal) (t : EReal) : EReal :=
  Finset.univ.fold min ⊤ fun n => if d n ≤ t then ⊤ else d n

/-- The fourth least of the different values `d`. -/
def fourth (d : Fin 1024 → EReal) : EReal := above d (above d (above d (Finset.univ.fold min ⊤ d)))

/-- The distance of location `s` to position `n`. -/
def dist (s : Fin 2 → EReal) (P : Fin 1024 → Fin 2 → EReal) (n : Fin 1024) : EReal :=
  Ideal.sqrt ((s 0 - P n 0) * (s 0 - P n 0) + (s 1 - P n 1) * (s 1 - P n 1))

/-- The kernel's weight of position `n`: an exponential of the distance up to the fourth least, nothing beyond. -/
def weight (p : EReal) (s : Fin 2 → EReal) (P : Fin 1024 → Fin 2 → EReal) (n : Fin 1024) : EReal :=
  if dist2 s P n ≤ fourth (dist2 s P) then Ideal.exp ((0 - power p) * dist s P n) else 0

/-- What one sampling location adds to one component of its head's output: the weighted sum of the values times the
    attention over the sum of the weights. -/
def contrib (p : EReal) (s : Fin 2 → EReal) (P : Fin 1024 → Fin 2 → EReal) (v : Fin 1024 → EReal) (a : EReal) : EReal :=
  (∑ n, weight p s P n * v n) * Ideal.div a (∑ n, weight p s P n * 1)

/-- The kernel's softmax over the four points of a head: the maximum is taken over all the scores, the sum over the
    scores of the head that `j` belongs to. -/
def share (a : Fin 64 → EReal) (j : Fin 64) : EReal :=
  Ideal.div (Ideal.exp (a j - Finset.univ.fold max ⊥ a))
    (∑ i : Fin 64, Ideal.exp (a i - Finset.univ.fold max ⊥ a) * (if i.val / 4 = j.val / 4 then 1 else 0))

/-- One component of a head's output for a token: the sum over the head's four sampling locations, as the kernel computes it. -/
def headOut (p : EReal) (x : FVec Ideal ⟨3, ![2, 1024, 1024]⟩ .f32) (pos : FVec Ideal ⟨3, ![2, 1024, 2]⟩ .f32)
    (Wso : FVec Ideal ⟨2, ![128, 1024]⟩ .f32) (bso : FVec Ideal ⟨1, ![128]⟩ .f32)
    (Waw : FVec Ideal ⟨2, ![64, 1024]⟩ .f32) (baw : FVec Ideal ⟨1, ![64]⟩ .f32)
    (Wv : FVec Ideal ⟨2, ![1024, 1024]⟩ .f32) (bv : FVec Ideal ⟨1, ![1024]⟩ .f32)
    (b : Fin 2) (h : Fin 16) (n : Fin 1024) (l : Fin 64) : EReal :=
  ∑ k : Fin 4, contrib p (place x pos Wso bso b n ⟨h.val * 4 + k.val, by omega⟩) (fun n' e => pos (ix3 b n' e))
    (fun n' => linear x Wv bv b n' ⟨h.val * 64 + l.val, by omega⟩) (share (fun j => linear x Waw baw b n j) ⟨h.val * 4 + k.val, by omega⟩)

/-- One component of the result, as the kernel computes it: the output layer's bias plus every head's part. -/
def result (p : EReal) (x : FVec Ideal ⟨3, ![2, 1024, 1024]⟩ .f32) (pos : FVec Ideal ⟨3, ![2, 1024, 2]⟩ .f32)
    (Wso : FVec Ideal ⟨2, ![128, 1024]⟩ .f32) (bso : FVec Ideal ⟨1, ![128]⟩ .f32)
    (Waw : FVec Ideal ⟨2, ![64, 1024]⟩ .f32) (baw : FVec Ideal ⟨1, ![64]⟩ .f32)
    (Wv : FVec Ideal ⟨2, ![1024, 1024]⟩ .f32) (bv : FVec Ideal ⟨1, ![1024]⟩ .f32)
    (Wo : FVec Ideal ⟨2, ![1024, 1024]⟩ .f32) (bo : FVec Ideal ⟨1, ![1024]⟩ .f32)
    (b : Fin 2) (n o : Fin 1024) : EReal :=
  bo (ix1 o) + ∑ h : Fin 16, ∑ l : Fin 64,
    headOut p x pos Wso bso Waw baw Wv bv b h n l * Wo (ix2 o ⟨h.val * 64 + l.val, by omega⟩)

end Cert.Shepard

end
-- ==== Proof.KernelIdeal.ProjPay.lean ====
/- The projection kernel's body at one index: sampling locations, attention shares and values. -/
module

public import proofs.«01_k».proof.Proof.Gen.KernelIdeal.Skeleton
public import proofs.«01_k».proof.Proof.Shepard.Spec
public import Idealize.ShloMosaic.Lib.Pointwise

@[expose] public section

set_option maxRecDepth 16384

noncomputable section

namespace Cert.KernelIdeal.ProjPay

open Idealize.ShloMosaic Idealize.ShloMosaic.TcCoe Idealize.SL.Sem
open Cert.KernelIdeal Cert.KernelIdeal.Gen Cert.Shepard

theorem ofBits_bot : Ideal.ofBits .f32 0xFF800000#32 = ⊥ := by simp [Ideal.ofBits, Ideal.ieee]

/-- A row of a block against a column of the weights, plus the bias. -/
def row {m : ℕ} (x : FVec Ideal S1x256x1024 .f32) (W : FVec Ideal ⟨2, ![1024, m]⟩ .f32) (bias : FVec Ideal ⟨2, ![1, m]⟩ .f32)
    (r : Fin 256) (j : Fin m) : EReal := (∑ d : Fin 1024, x (ix3 0 r d) * W (ix2 d j)) + bias (ix2 0 j)

/-- The block of values. -/
theorem pay5_at (x : FVec Ideal S1x256x1024 .f32) (W : FVec Ideal S1024x1024 .f32) (bias : FVec Ideal S1x1024 .f32) (r : Fin 256) (j : Fin 1024) :
    k0_pay2 (F := Ideal) (k0_pay5 (F := Ideal) x W bias) (ix3 0 r j) = row x W bias r j := by
  pointwise [k0_pay2, k0_pay5, k0_pay3, row]

/-- The block of scores. -/
theorem pay4_at (x : FVec Ideal S1x256x1024 .f32) (W : FVec Ideal S1024x64 .f32) (bias : FVec Ideal S1x64 .f32) (r : Fin 256) (j : Fin 64) :
    k0_pay4 (F := Ideal) x W bias (ix2 r j) = row x W bias r j := by
  pointwise [k0_pay4, k0_pay3, row]

/-- The block of sampling locations, coordinate by coordinate: the offset plus the token's own position. -/
theorem pay6_at (x : FVec Ideal S1x256x1024 .f32) (W : FVec Ideal S1024x128 .f32) (bias : FVec Ideal S1x128 .f32) (pos : FVec Ideal S1x256x2 .f32)
    (r : Fin 256) (l : Fin 64) (e : Fin 2) :
    k0_pay6 (F := Ideal) x W bias pos (ix3 0 r ⟨2 * l.val + e.val, by omega⟩) = row x W bias r ⟨2 * l.val + e.val, by omega⟩ + pos (ix3 0 r e) := by
  unfold k0_pay6
  generalize hc : concatenate S256x128 1 _ _ = C
  have hC (q : Fin 256) : C (ix2 q ⟨2 * l.val + e.val, by omega⟩) = pos (ix3 0 q e) := by
    rw [← hc]
    refine (concatenate_replicate_apply (t := S256x128) (s₁ := S256x2) 1 64 (shapeCast S256x2 pos shapeCasts_S1x256x2_S256x2) (by exact (show Shape.Concatenates (List.replicate 64 S256x2) S256x128 1 by decide)) rfl _ (ix2 q e : S256x2.Idx) ?_ ?_).trans ?_
    · show e.val = (2 * l.val + e.val) % 2
      omega
    · intro b hb
      fin_cases b
      · rfl
      · exact absurd rfl hb
    · pointwise
  pointwise [k0_pay3, row, hC]

/-- Two columns belong to the same head: the group matrix the body builds from column numbers divided by four. -/
theorem group_at (i j : Fin 64) :
    sitofp (F := Ideal) .f32 (extui 32 (cmpi .eq (k0_pay7 (iota .tc S64x64 32 [0] iota_S64x64_d0_w32) 4#32)
      (select (k0_pay9 (iota .tc S64x64 32 [1] iota_S64x64_d1_w32)) (k0_pay10 (iota .tc S64x64 32 [1] iota_S64x64_d1_w32)) (k0_pay8 (iota .tc S64x64 32 [1] iota_S64x64_d1_w32)))) natLt_1_32) (ix2 i j)
      = if i.val / 4 = j.val / 4 then (1 : EReal) else 0 := by
  have h : (cmpi .eq (k0_pay7 (iota .tc S64x64 32 [0] iota_S64x64_d0_w32) 4#32)
      (select (k0_pay9 (iota .tc S64x64 32 [1] iota_S64x64_d1_w32)) (k0_pay10 (iota .tc S64x64 32 [1] iota_S64x64_d1_w32)) (k0_pay8 (iota .tc S64x64 32 [1] iota_S64x64_d1_w32)))) (ix2 i j)
      = if i.val / 4 = j.val / 4 then 1#1 else 0#1 := by
    pointwise [k0_pay7, k0_pay8, k0_pay9, k0_pay10]
    revert i j
    decide +kernel
  pointwise [h]
  split
  · show (((1#32 : BitVec 32).toInt : ℝ) : EReal) = 1
    simp
  · show (((0#32 : BitVec 32).toInt : ℝ) : EReal) = 0
    simp

/-- The block of attention shares. -/
theorem pay1_at (a : FVec Ideal S256x64 .f32) (r : Fin 256) (j : Fin 64) :
    k0_pay1 (F := Ideal) a (k0_pay7 (iota .tc S64x64 32 [0] iota_S64x64_d0_w32) 4#32) (k0_pay8 (iota .tc S64x64 32 [1] iota_S64x64_d1_w32))
        (k0_pay9 (iota .tc S64x64 32 [1] iota_S64x64_d1_w32)) (k0_pay10 (iota .tc S64x64 32 [1] iota_S64x64_d1_w32)) (ix3 0 r j)
      = share (fun i => a (ix2 r i)) j := by
  unfold k0_pay1
  dsimp only
  generalize hG : sitofp (F := Ideal) .f32 (extui 32 (cmpi .eq (k0_pay7 (iota .tc S64x64 32 [0] iota_S64x64_d0_w32) 4#32)
      (select (k0_pay9 (iota .tc S64x64 32 [1] iota_S64x64_d1_w32)) (k0_pay10 (iota .tc S64x64 32 [1] iota_S64x64_d1_w32)) (k0_pay8 (iota .tc S64x64 32 [1] iota_S64x64_d1_w32)))) natLt_1_32) = G
  have hg (i j : Fin 64) : G (ix2 i j) = if i.val / 4 = j.val / 4 then (1 : EReal) else 0 := hG ▸ group_at i j
  pointwise [share, ofBits_bot, hg]

end Cert.KernelIdeal.ProjPay

end
-- ==== Proof.KernelIdeal.ProjCases.lean ====
/- What the projection kernel's body leaves in its three result blocks. -/
module

public import proofs.«01_k».proof.Proof.Gen.Own.KernelIdeal.K0.Frame
public import proofs.«01_k».proof.Proof.KernelIdeal.ProjPay
public import Idealize.ShloMosaic.Lib.Pipeline.Value
public import Idealize.ShloMosaic.Lib.Tactic

@[expose] public section

set_option maxRecDepth 16384

noncomputable section

namespace Cert.KernelIdeal.ProjCases

open Idealize.ShloMosaic Idealize.ShloMosaic.TcCoe Idealize.SL.Sem Idealize.SL.RA
open Cert.KernelIdeal Cert.KernelIdeal.Gen Cert.KernelIdeal.Own.K0

theorem hz2 : (![0, 0] : Fin 2 → Nat) = fun _ => 0 := funext fun a => by fin_cases a <;> rfl
theorem hz3 : (![0, 0, 0] : Fin 3 → Nat) = fun _ => 0 := funext fun a => by fin_cases a <;> rfl

variable {Ix : Type} [DecidableEq Ix] {U : Type} [URA U] {Lvl : Type} [Preorder Lvl] (𝒱₀ : Variants)
variable (c : Dev nD) (i : grid0.Coords)
  (arg2 : Memref sig .tc .vmem S1x256x1024 .f32) (harg2 : arg2.IsWhole)
  (arg3 : Memref sig .tc .vmem S1x256x2 .f32) (harg3 : arg3.IsWhole)
  (arg4 : Memref sig .tc .vmem S1024x128 .f32) (harg4 : arg4.IsWhole)
  (arg5 : Memref sig .tc .vmem S1x128 .f32) (harg5 : arg5.IsWhole)
  (arg6 : Memref sig .tc .vmem S1024x64 .f32) (harg6 : arg6.IsWhole)
  (arg7 : Memref sig .tc .vmem S1x64 .f32) (harg7 : arg7.IsWhole)
  (arg8 : Memref sig .tc .vmem S1024x1024 .f32) (harg8 : arg8.IsWhole)
  (arg9 : Memref sig .tc .vmem S1x1024 .f32) (harg9 : arg9.IsWhole)
  (arg10 : Memref sig .tc .vmem S1x256x128 .f32) (harg10 : arg10.IsWhole)
  (arg11 : Memref sig .tc .vmem S1x256x64 .f32) (harg11 : arg11.IsWhole)
  (arg12 : Memref sig .tc .vmem S1x256x1024 .f32) (harg12 : arg12.IsWhole)
  (x0 : Vec Ideal S1x256x1024 .f32) (x1 : Vec Ideal S1x256x2 .f32) (x2 : Vec Ideal S1024x128 .f32) (x3 : Vec Ideal S1x128 .f32) (x4 : Vec Ideal S1024x64 .f32) (x5 : Vec Ideal S1x64 .f32) (x6 : Vec Ideal S1024x1024 .f32) (x7 : Vec Ideal S1x1024 .f32)

/-- The block of sampling locations. -/
theorem out_8 : out0_A_8 (F := Ideal) (Ix := Ix) (U := U) (Lvl := Lvl) 𝒱₀ c i arg2 harg2 arg3 harg3 arg4 harg4 arg5 harg5 arg6 harg6 arg7 harg7 arg8 harg8 arg9 harg9 arg10 harg10 arg11 harg11 arg12 harg12 x0 x1 x2 x3 x4 x5 x6 x7 = k0_pay6 (F := Ideal) x0 x2 x3 x1 := by
  unfold out0_A_8
  rw [View.read_writes_eq_canon _ _ _ (cover0_A_8 (F := Ideal) (Ix := Ix) (U := U) (Lvl := Lvl) 𝒱₀ c i arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero (S := S1x256x128) hz3]
  simp only [View.readAt_eq_ld, harg2.read_unread, harg3.read_unread, harg4.read_unread, harg5.read_unread, harg6.read_unread, harg7.read_unread, harg8.read_unread, harg9.read_unread,
    View.ld_unit_zero (S := S1x256x1024) hz3, View.ld_unit_zero (S := S1x256x2) hz3, View.ld_unit_zero (S := S1024x128) hz2, View.ld_unit_zero (S := S1x128) hz2,
    View.ld_unit_zero (S := S1024x64) hz2, View.ld_unit_zero (S := S1x64) hz2, View.ld_unit_zero (S := S1024x1024) hz2, View.ld_unit_zero (S := S1x1024) hz2]

/-- The block of attention shares. -/
theorem out_9 : out0_A_9 (F := Ideal) (Ix := Ix) (U := U) (Lvl := Lvl) 𝒱₀ c i arg2 harg2 arg3 harg3 arg4 harg4 arg5 harg5 arg6 harg6 arg7 harg7 arg8 harg8 arg9 harg9 arg10 harg10 arg11 harg11 arg12 harg12 x0 x1 x2 x3 x4 x5 x6 x7 = k0_pay1 (F := Ideal) (k0_pay4 (F := Ideal) x0 x4 x5) (k0_pay7 (iota .tc S64x64 32 [0] iota_S64x64_d0_w32) 4#32) (k0_pay8 (iota .tc S64x64 32 [1] iota_S64x64_d1_w32))
      (k0_pay9 (iota .tc S64x64 32 [1] iota_S64x64_d1_w32)) (k0_pay10 (iota .tc S64x64 32 [1] iota_S64x64_d1_w32)) := by
  unfold out0_A_9
  rw [View.read_writes_eq_canon _ _ _ (cover0_A_9 (F := Ideal) (Ix := Ix) (U := U) (Lvl := Lvl) 𝒱₀ c i arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero (S := S1x256x64) hz3]
  simp only [View.readAt_eq_ld, harg2.read_unread, harg3.read_unread, harg4.read_unread, harg5.read_unread, harg6.read_unread, harg7.read_unread, harg8.read_unread, harg9.read_unread,
    View.ld_unit_zero (S := S1x256x1024) hz3, View.ld_unit_zero (S := S1x256x2) hz3, View.ld_unit_zero (S := S1024x128) hz2, View.ld_unit_zero (S := S1x128) hz2,
    View.ld_unit_zero (S := S1024x64) hz2, View.ld_unit_zero (S := S1x64) hz2, View.ld_unit_zero (S := S1024x1024) hz2, View.ld_unit_zero (S := S1x1024) hz2]

/-- The block of values. -/
theorem out_10 : out0_A_10 (F := Ideal) (Ix := Ix) (U := U) (Lvl := Lvl) 𝒱₀ c i arg2 harg2 arg3 harg3 arg4 harg4 arg5 harg5 arg6 harg6 arg7 harg7 arg8 harg8 arg9 harg9 arg10 harg10 arg11 harg11 arg12 harg12 x0 x1 x2 x3 x4 x5 x6 x7 = k0_pay2 (F := Ideal) (k0_pay5 (F := Ideal) x0 x6 x7) := by
  unfold out0_A_10
  rw [View.read_writes_eq_canon _ _ _ (cover0_A_10 (F := Ideal) (Ix := Ix) (U := U) (Lvl := Lvl) 𝒱₀ c i arg2 harg2 arg3 harg3 arg4 harg4 arg5 harg5 arg6 harg6 arg7 harg7 arg8 harg8 arg9 harg9 arg10 harg10 arg11 harg11 arg12 harg12 x0 x1 x2 x3 x4 x5 x6 x7)]
  unfold kernelRun0_A
  dsimp only
  sl_unfold_words
  rw [View.canon_unit_zero (S := S1x256x1024) hz3]
  simp only [View.readAt_eq_ld, harg2.read_unread, harg3.read_unread, harg4.read_unread, harg5.read_unread, harg6.read_unread, harg7.read_unread, harg8.read_unread, harg9.read_unread,
    View.ld_unit_zero (S := S1x256x1024) hz3, View.ld_unit_zero (S := S1x256x2) hz3, View.ld_unit_zero (S := S1024x128) hz2, View.ld_unit_zero (S := S1x128) hz2,
    View.ld_unit_zero (S := S1024x64) hz2, View.ld_unit_zero (S := S1x64) hz2, View.ld_unit_zero (S := S1024x1024) hz2, View.ld_unit_zero (S := S1x1024) hz2]

end Cert.KernelIdeal.ProjCases

end
-- ==== Proof.KernelIdeal.ProjValue.lean ====
/- What the three arrays of the projection region hold after its run. -/
module

public import proofs.«01_k».proof.Proof.KernelIdeal.ProjCases
public import Idealize.ShloMosaic.Lib.Pipeline.ValueKit

@[expose] public section

set_option maxRecDepth 16384

noncomputable section

namespace Cert.KernelIdeal.ProjValue

open Idealize.ShloMosaic Idealize.ShloMosaic.TcCoe Idealize.SL.Sem Idealize.SL.RA
open Cert.KernelIdeal Cert.KernelIdeal.Gen Cert.KernelIdeal.Own.K0 Cert.KernelIdeal.ProjPay Cert.Shepard

variable {Ix : Type} [DecidableEq Ix] {U : Type} [URA U] {Lvl : Type} [Preorder Lvl] (𝒱₀ : Variants)
variable (V : (c : Dev nD) → (b : Ref sig .tc) → Buf (Elt Ideal) ((c : Thread nD τ).loc b)) (D : Dev nD → CellTallies nD τ sig Ix)

/-- A token's row against a column of transposed weights, plus the bias row. -/
def lin {m : ℕ} (x : FVec Ideal S2x1024x1024 .f32) (W : FVec Ideal ⟨2, ![1024, m]⟩ .f32) (bias : FVec Ideal ⟨2, ![1, m]⟩ .f32)
    (b : Fin 2) (n : Fin 1024) (j : Fin m) : EReal := (∑ d : Fin 1024, x (ix3 b n d) * W (ix2 d j)) + bias (ix2 0 j)

theorem idx : ∀ t : Fin cfg0.N, win0_0.index t = ![t.val / 4, t.val % 4, 0] ∧ win0_1.index t = ![t.val / 4, t.val % 4, 0]
    ∧ win0_8.index t = ![t.val / 4, t.val % 4, 0] ∧ win0_9.index t = ![t.val / 4, t.val % 4, 0] ∧ win0_10.index t = ![t.val / 4, t.val % 4, 0]
    ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

/-- A token of the point's block. -/
def tok (t : Fin cfg0.N) (r : Fin 256) : Fin 1024 := ⟨t.val % 4 * 256 + r.val, by omega⟩

/-- The point's batch entry. -/
def bat (t : Fin cfg0.N) : Fin 2 := ⟨t.val / 4, by have h : t.val < 8 := lt_of_lt_of_eq t.isLt N_0; omega⟩

theorem x_at (c : Dev nD) (t : Fin cfg0.N) (r : Fin 256) (d : Fin 1024) :
    (iblk V c 0 t : FVec Ideal S1x256x1024 .f32) (ix3 0 r d) = (V c main_arg0 : FVec Ideal S2x1024x1024 .f32) (ix3 (bat t) (tok t r) d) := by
  blk_ext [iblk, idx t, bat, tok]

theorem pos_at (c : Dev nD) (t : Fin cfg0.N) (r : Fin 256) (e : Fin 2) :
    (iblk V c 1 t : FVec Ideal S1x256x2 .f32) (ix3 0 r e) = (V c main_arg1 : FVec Ideal S2x1024x2 .f32) (ix3 (bat t) (tok t r) e) := by
  blk_ext [iblk, idx t, bat, tok]

theorem row_values (c : Dev nD) (t : Fin cfg0.N) (r : Fin 256) (j : Fin 1024) :
    row (iblk V c 0 t) (iblk V c 6 t) (iblk V c 7 t) r j = lin (V c main_arg0) (V c main_v4) (V c main_v5) (bat t) (tok t r) j := by
  have hW (d j : Fin 1024) : (iblk V c 6 t : FVec Ideal S1024x1024 .f32) (ix2 d j) = (V c main_v4 : FVec Ideal S1024x1024 .f32) (ix2 d j) := by
    blk_ext [iblk, idx t]
  have hb (j : Fin 1024) : (iblk V c 7 t : FVec Ideal S1x1024 .f32) (ix2 0 j) = (V c main_v5 : FVec Ideal S1x1024 .f32) (ix2 0 j) := by
    blk_ext [iblk, idx t]
  unfold row lin
  simp only [x_at, hW, hb]

theorem row_scores (c : Dev nD) (t : Fin cfg0.N) (r : Fin 256) (j : Fin 64) :
    row (iblk V c 0 t) (iblk V c 4 t) (iblk V c 5 t) r j = lin (V c main_arg0) (V c main_v2) (V c main_v3) (bat t) (tok t r) j := by
  have hW (d : Fin 1024) (j : Fin 64) : (iblk V c 4 t : FVec Ideal S1024x64 .f32) (ix2 d j) = (V c main_v2 : FVec Ideal S1024x64 .f32) (ix2 d j) := by
    blk_ext [iblk, idx t]
  have hb (j : Fin 64) : (iblk V c 5 t : FVec Ideal S1x64 .f32) (ix2 0 j) = (V c main_v3 : FVec Ideal S1x64 .f32) (ix2 0 j) := by
    blk_ext [iblk, idx t]
  unfold row lin
  simp only [x_at, hW, hb]

theorem row_offsets (c : Dev nD) (t : Fin cfg0.N) (r : Fin 256) (j : Fin 128) :
    row (iblk V c 0 t) (iblk V c 2 t) (iblk V c 3 t) r j = lin (V c main_arg0) (V c main_v0) (V c main_v1) (bat t) (tok t r) j := by
  have hW (d : Fin 1024) (j : Fin 128) : (iblk V c 2 t : FVec Ideal S1024x128 .f32) (ix2 d j) = (V c main_v0 : FVec Ideal S1024x128 .f32) (ix2 d j) := by
    blk_ext [iblk, idx t]
  have hb (j : Fin 128) : (iblk V c 3 t : FVec Ideal S1x128 .f32) (ix2 0 j) = (V c main_v1 : FVec Ideal S1x128 .f32) (ix2 0 j) := by
    blk_ext [iblk, idx t]
  unfold row lin
  simp only [x_at, hW, hb]

/-- An index of a block with a leading axis of one. -/
theorem idx3 {a b : ℕ} (y : (⟨3, ![1, a, b]⟩ : Shape).Idx) : ∃ (r : Fin a) (j : Fin b), y = ix3 0 r j :=
  ⟨y 1, y 2, by funext k; fin_cases k; · exact Subsingleton.elim (α := Fin 1) _ _
                · rfl
                · rfl⟩

theorem emb_values (t : Fin cfg0.N) (r : Fin 256) (j : Fin 1024) :
    ((View.whole main_v6_2).slice (win0_10.rect t)).emb (ix3 0 r j : (⟨3, ![1, 256, 1024]⟩ : Shape).Idx) = (ix3 (bat t) (tok t r) j : (⟨3, ![2, 1024, 1024]⟩ : Shape).Idx) := by
  funext k; fin_cases k <;> exact Fin.ext (by blk_simp [idx t, bat, tok] <;> rfl)

theorem emb_shares (t : Fin cfg0.N) (r : Fin 256) (j : Fin 64) :
    ((View.whole main_v6_1).slice (win0_9.rect t)).emb (ix3 0 r j : (⟨3, ![1, 256, 64]⟩ : Shape).Idx) = (ix3 (bat t) (tok t r) j : (⟨3, ![2, 1024, 64]⟩ : Shape).Idx) := by
  funext k; fin_cases k <;> exact Fin.ext (by blk_simp [idx t, bat, tok] <;> rfl)

theorem emb_places (t : Fin cfg0.N) (r : Fin 256) (j : Fin 128) :
    ((View.whole main_v6_0).slice (win0_8.rect t)).emb (ix3 0 r j : (⟨3, ![1, 256, 128]⟩ : Shape).Idx) = (ix3 (bat t) (tok t r) j : (⟨3, ![2, 1024, 128]⟩ : Shape).Idx) := by
  funext k; fin_cases k <;> exact Fin.ext (by blk_simp [idx t, bat, tok] <;> rfl)

/-- Every token's values. -/
def valuesOf (c : Dev nD) (i : S2x1024x1024.Idx) : EReal := lin (V c main_arg0) (V c main_v4) (V c main_v5) (i 0) (i 1) (i 2)

/-- Every token's attention shares. -/
def sharesOf (c : Dev nD) (i : S2x1024x64.Idx) : EReal :=
  share (fun l => lin (V c main_arg0) (V c main_v2) (V c main_v3) (i 0) (i 1) l) (i 2)

/-- Every token's sampling locations: offset plus the token's own position. -/
def placesOf (c : Dev nD) (i : S2x1024x128.Idx) : EReal :=
  lin (V c main_arg0) (V c main_v0) (V c main_v1) (i 0) (i 1) (i 2)
    + (V c main_arg1 : FVec Ideal S2x1024x2 .f32) (ix3 (i 0) (i 1) ⟨(i 2).val % 2, Nat.mod_lt _ (by decide)⟩)

theorem placesOf_at (c : Dev nD) (b : Fin 2) (n : Fin 1024) (l : Fin 64) (e : Fin 2) :
    placesOf V c (ix3 b n ⟨2 * l.val + e.val, by omega⟩) = lin (V c main_arg0) (V c main_v0) (V c main_v1) b n ⟨2 * l.val + e.val, by omega⟩
      + (V c main_arg1 : FVec Ideal S2x1024x2 .f32) (ix3 b n e) := by
  have he : (⟨(2 * l.val + e.val) % 2, Nat.mod_lt _ (by decide)⟩ : Fin 2) = e := Fin.ext (by show (2 * l.val + e.val) % 2 = e.val; omega)
  exact congrArg (fun q => _ + (V c main_arg1 : FVec Ideal S2x1024x2 .f32) (ix3 b n q)) he

/-- The values' array: every token's values. -/
theorem values (c : Dev nD) : (dat (Ix := Ix) (U := U) (Lvl := Lvl) 𝒱₀ V D c).arrAt 10 cfg0.N
    = valuesOf V c := by
  refine (dat (Ix := Ix) (U := U) (Lvl := Lvl) 𝒱₀ V D c).arrAt_eq_of_covers 10 _ (by decide +kernel) fun t hf y => ?_
  obtain ⟨r, j, rfl⟩ := idx3 (a := 256) (b := 1024) y
  blk_simp
  rw [after0_10]
  unfold outsAt0
  dsimp only
  rw [ProjCases.out_10, pay5_at, row_values]
  rw [emb_values]
  rfl

/-- The attention array: the shares of the token's scores. -/
theorem shares (c : Dev nD) : (dat (Ix := Ix) (U := U) (Lvl := Lvl) 𝒱₀ V D c).arrAt 9 cfg0.N
    = sharesOf V c := by
  refine (dat (Ix := Ix) (U := U) (Lvl := Lvl) 𝒱₀ V D c).arrAt_eq_of_covers 9 _ (by decide +kernel) fun t hf y => ?_
  obtain ⟨r, j, rfl⟩ := idx3 (a := 256) (b := 64) y
  blk_simp
  rw [after0_9]
  unfold outsAt0
  dsimp only
  rw [ProjCases.out_9, pay1_at]
  simp only [pay4_at, row_scores]
  rw [emb_shares]
  rfl

/-- The locations' array: offset plus the token's own position. -/
theorem places (c : Dev nD) : (dat (Ix := Ix) (U := U) (Lvl := Lvl) 𝒱₀ V D c).arrAt 8 cfg0.N
    = placesOf V c := by
  refine (dat (Ix := Ix) (U := U) (Lvl := Lvl) 𝒱₀ V D c).arrAt_eq_of_covers 8 _ (by decide +kernel) fun t hf y => ?_
  obtain ⟨r, j, rfl⟩ := idx3 (a := 256) (b := 128) y
  obtain ⟨l, e, rfl⟩ : ∃ (l : Fin 64) (e : Fin 2), j = ⟨2 * l.val + e.val, by omega⟩ :=
    ⟨⟨j.val / 2, by omega⟩, ⟨j.val % 2, by omega⟩, Fin.ext (by show j.val = 2 * (j.val / 2) + j.val % 2; omega)⟩
  blk_simp
  rw [after0_8]
  unfold outsAt0
  dsimp only
  rw [ProjCases.out_8, pay6_at, row_offsets, pos_at]
  rw [emb_places]
  rw [placesOf_at]

end Cert.KernelIdeal.ProjValue

end
-- ==== Proof.KernelIdeal.KnnPay.lean ====
/- What the nearest-points body computes from the values it reads, at an index. -/
module

public import proofs.«01_k».proof.Proof.Gen.KernelIdeal.Skeleton
public import proofs.«01_k».proof.Proof.Shepard.Spec

@[expose] public section

set_option maxRecDepth 16384

noncomputable section

namespace Cert.KernelIdeal.KnnPay

open Idealize.ShloMosaic Idealize.ShloMosaic.TcCoe Idealize.SL.Sem
open Cert.KernelIdeal Cert.KernelIdeal.Gen Cert.Shepard

/-- The location a row of the loaded block holds. -/
def spot (v3 : FVec Ideal S1x1x1024x2 .f32) (r : Fin 1024) (e : Fin 2) : EReal := v3 (ix4 0 0 r e)

/-- The positions the loaded table's first two rows hold. -/
def table (v5 : FVec Ideal S1x3x1024 .f32) (n : Fin 1024) (e : Fin 2) : EReal := v5 (ix3 0 ⟨e.val, by omega⟩ n)

theorem ofBits_top : Ideal.ofBits .f32 0x7F800000#32 = ⊤ := by simp [Ideal.ofBits, Ideal.ieee]

/-- The expanded squared distance of row `r`'s location to position `n`, when the table's third row holds the
    positions' squared norms. -/
theorem pay10_at (v3 : FVec Ideal S1x1x1024x2 .f32) (v5 : FVec Ideal S1x3x1024 .f32) (r n : Fin 1024)
    (h5 : v5 (ix3 0 2 n) = v5 (ix3 0 0 n) * v5 (ix3 0 0 n) + v5 (ix3 0 1 n) * v5 (ix3 0 1 n)) :
    k1_pay10 (F := Ideal) v3 v5 (ix2 r n) = dist2 (spot v3 r) (table v5) n := by
  pointwise [k1_pay10, k1_pay4, k1_pay5, k1_pay6, k1_pay7]
  rw [Fin.sum_univ_two, h5]
  rfl

/-- After three minima, the third least of the row's different values. -/
theorem pay11_at (v3 : FVec Ideal S1x1x1024x2 .f32) (v5 : FVec Ideal S1x3x1024 .f32) (r : Fin 1024) :
    k1_pay11 (F := Ideal) v3 v5 (ix1 r) = above (fun n => k1_pay10 (F := Ideal) v3 v5 (ix2 r n))
      (above (fun n => k1_pay10 (F := Ideal) v3 v5 (ix2 r n))
        (Finset.univ.fold min ⊤ fun n => k1_pay10 (F := Ideal) v3 v5 (ix2 r n))) := by
  unfold k1_pay11
  generalize k1_pay10 (F := Ideal) v3 v5 = y
  pointwise [above, ofBits_top]

/-- A row of the body's result over its operands as they were computed before it. -/
theorem pay12_at (arg1 : BitVec 32) (v2 : EReal) (v6 : FVec Ideal S3x1024 .f32) (v7 v8 : FVec Ideal S1024x1 .f32)
    (v23 : FVec Ideal S1024x1024 .f32) (v36 : FVec Ideal S1024 .f32) (v64 : FVec Ideal S1024x65 .f32)
    (v66 : FVec Ideal S1x1x1024x4 .f32) (r : Fin 1024) (c : Fin 64) :
    k1_pay12 (F := Ideal) arg1 v2 v6 v7 v8 v23 v36 v64 v66 (ix2 r c)
      = (∑ x, (if v23 (ix2 r x) ≤ above (fun x => v23 (ix2 r x)) (v36 (ix1 r)) then
              Ideal.exp ((0 - v2) * Ideal.sqrt ((v7 (ix2 r 0) - v6 (ix2 0 x)) * (v7 (ix2 r 0) - v6 (ix2 0 x)) +
                    (v8 (ix2 r 0) - v6 (ix2 1 x)) * (v8 (ix2 r 0) - v6 (ix2 1 x)))) else 0) * v64 (ix2 x ⟨c.val, by omega⟩))
        * Ideal.div (∑ x : Fin 4, Scalar.select (IntOp.cmpi CmpIPredicate.eq (BitVec.ofNat 32 x.val) arg1) (v66 (ix4 0 0 r x)) 0)
          (∑ x, (if v23 (ix2 r x) ≤ above (fun x => v23 (ix2 r x)) (v36 (ix1 r)) then
              Ideal.exp ((0 - v2) * Ideal.sqrt ((v7 (ix2 r 0) - v6 (ix2 0 x)) * (v7 (ix2 r 0) - v6 (ix2 0 x)) +
                    (v8 (ix2 r 0) - v6 (ix2 1 x)) * (v8 (ix2 r 0) - v6 (ix2 1 x)))) else 0) * v64 (ix2 x 64)) := by
  pointwise [k1_pay12, above, ofBits_top]

/-- The attention of point `k`, picked from its row by comparing the column number with the grid coordinate. -/
theorem pick (k : Fin 4) (a : Fin 4 → EReal) :
    ∑ x : Fin 4, Scalar.select (IntOp.cmpi CmpIPredicate.eq (BitVec.ofNat 32 x.val) (BitVec.ofNat 32 k.val)) (a x) 0 = a k := by
  rw [Fin.sum_univ_four]
  have h (p q : Fin 4) : IntOp.cmpi CmpIPredicate.eq (BitVec.ofNat 32 p.val) (BitVec.ofNat 32 q.val) = if p = q then 1#1 else 0#1 := by
    revert p q; decide
  have e : ∀ x : Fin 4, Scalar.select (IntOp.cmpi CmpIPredicate.eq (BitVec.ofNat 32 x.val) (BitVec.ofNat 32 k.val)) (a x) 0
      = if x = k then a x else 0 := by
    intro x
    rw [h x k]
    by_cases hx : x = k
    · simp [hx, Scalar.select]
    · simp [hx, Scalar.select]
  rw [show (BitVec.ofNat 32 (0 : Fin 4).val) = BitVec.ofNat 32 (0 : Fin 4).val from rfl, e 0, e 1, e 2, e 3]
  fin_cases k <;> simp

theorem pay3_eq (v0 : EReal) : k1_pay3 (F := Ideal) v0 = power v0 := by
  unfold k1_pay3 power
  show max v0 (Ideal.ofBits .f32 0x00000000#32) + _ = _
  rw [Ideal.ofBits_zero_f32]
  rfl

/-- What one grid point adds to a component: the location's weighted sum of column `c` of the kept values times the
    point's attention over the sum of the weights. -/
theorem pay12_block (k : Fin 4) (v0 : EReal) (v3 : FVec Ideal S1x1x1024x2 .f32) (v5 : FVec Ideal S1x3x1024 .f32)
    (v64 : FVec Ideal S1024x65 .f32) (v66 : FVec Ideal S1x1x1024x4 .f32) (r : Fin 1024) (c : Fin 64)
    (h5 : ∀ n, v5 (ix3 0 2 n) = v5 (ix3 0 0 n) * v5 (ix3 0 0 n) + v5 (ix3 0 1 n) * v5 (ix3 0 1 n))
    (h1 : ∀ n, v64 (ix2 n 64) = 1) :
    k1_pay12 (F := Ideal) (BitVec.ofNat 32 k.val) (k1_pay3 (F := Ideal) v0) (k1_pay5 (F := Ideal) v5)
        (k1_pay6 (F := Ideal) v3) (k1_pay7 (F := Ideal) v3) (k1_pay10 (F := Ideal) v3 v5) (k1_pay11 (F := Ideal) v3 v5) v64 v66 (ix2 r c)
      = contrib v0 (spot v3 r) (table v5) (fun n => v64 (ix2 n ⟨c.val, by omega⟩)) (v66 (ix4 0 0 r k)) := by
  rw [pay12_at, pick k fun x => v66 (ix4 0 0 r x), pay3_eq, pay11_at]
  have hd : (fun n => k1_pay10 (F := Ideal) v3 v5 (ix2 r n)) = dist2 (spot v3 r) (table v5) := funext fun n => pay10_at v3 v5 r n (h5 n)
  have hx (n : Fin 1024) : k1_pay5 (F := Ideal) v5 (ix2 0 n) = table v5 n 0 := by pointwise [k1_pay5]; rfl
  have hy (n : Fin 1024) : k1_pay5 (F := Ideal) v5 (ix2 1 n) = table v5 n 1 := by pointwise [k1_pay5]; rfl
  have sx : k1_pay6 (F := Ideal) v3 (ix2 r 0) = spot v3 r 0 := by pointwise [k1_pay6, k1_pay4]; rfl
  have sy : k1_pay7 (F := Ideal) v3 (ix2 r 0) = spot v3 r 1 := by pointwise [k1_pay7, k1_pay4]; rfl
  rw [hd]
  simp only [hx, hy, sx, sy, h1, fun n => pay10_at v3 v5 r n (h5 n)]
  rfl

end Cert.KernelIdeal.KnnPay

end
-- ==== Proof.KernelIdeal.KnnCases.lean ====
/- What the attention kernel's body leaves in its buffers in each of its two cases. -/
module

public import proofs.«01_k».proof.Proof.KernelIdeal.KnnRegion
public import proofs.«01_k».proof.Proof.KernelIdeal.KnnPay
public import Idealize.ShloMosaic.Lib.Pipeline.Value
public import Idealize.ShloMosaic.Lib.Tactic

@[expose] public section

set_option maxRecDepth 16384

noncomputable section

namespace Cert.KernelIdeal.KnnCases

open Idealize.ShloMosaic Idealize.ShloMosaic.TcCoe Idealize.SL.Sem
open Cert.KernelIdeal Cert.KernelIdeal.Gen Cert.KernelIdeal.KnnRegion Cert.KernelIdeal.KnnPay Cert.Shepard

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The part one point computes, from its blocks and the kept values `y`. -/
def part (k : ℕ) (x0 : Vec Ideal S1x1 .f32) (x1 : Vec Ideal S1x1x1024x2 .f32) (x2 : Vec Ideal S1x1x1024x4 .f32)
    (x3 : Vec Ideal S1x3x1024 .f32) (y : Vec Ideal S1024x65 .f32) : FVec Ideal S1024x64 .f32 :=
  k1_pay12 (F := Ideal) (BitVec.ofNat 32 k) (k1_pay3 (F := Ideal) (x0 (ix2 0 0))) (k1_pay5 (F := Ideal) x3) (k1_pay6 (F := Ideal) x1)
    (k1_pay7 (F := Ideal) x1) (k1_pay10 (F := Ideal) x1 x3) (k1_pay11 (F := Ideal) x1 x3) y x2

variable (c : Dev nD) (i : grid1.Coords)
  (arg2 : Memref sig .tc .smem S1x1 .f32) (harg2 : arg2.IsWhole)
  (arg3 : Memref sig .tc .vmem S1x1x1024x2 .f32) (harg3 : arg3.IsWhole)
  (arg4 : Memref sig .tc .vmem S1x1x1024x4 .f32) (harg4 : arg4.IsWhole)
  (arg5 : Memref sig .tc .vmem S1x3x1024 .f32) (harg5 : arg5.IsWhole)
  (arg6 : Memref sig .tc .vmem S1x1x1024x64 .f32) (harg6 : arg6.IsWhole)
  (arg7 : Memref sig .tc .vmem S1x1x1024x64 .f32) (harg7 : arg7.IsWhole)
  (arg8 : Memref sig .tc .vmem S1024x65 .f32) (harg8 : arg8.IsWhole)
  (x0 : Vec Ideal S1x1 .f32) (x1 : Vec Ideal S1x1x1024x2 .f32) (x2 : Vec Ideal S1x1x1024x4 .f32) (x3 : Vec Ideal S1x3x1024 .f32) (x4 : Vec Ideal S1x1x1024x64 .f32)

/-- The one entry of a block of one. -/
theorem first_eq (h : 0 < S1x1.numel) : Shape.Idx.first h = (ix2 0 0 : S1x1.Idx) := funext fun a => by
  fin_cases a <;> exact Subsingleton.elim (α := Fin 1) _ _

/-- The power is read from its block of one. -/
theorem one {h h'} : View.ld x0 (Rect.unit (s := S1x1) ![0, 0] ![1, 1] h) (Shape.Idx.first h') = x0 (ix2 0 0) :=
  (congrFun (View.ld_unit_zero (S := S1x1) hz2 h x0) _).trans (congrArg x0 (first_eq _))

/-- At a later point: what the block held plus this point's part. -/
theorem out_B (hc0 : ¬cond_0 i) (hc1 : ¬cond_1 i) (hc2 : cond_2 i) (xo : Vec Ideal S1x1x1024x64 .f32) (xs : Vec Ideal S1024x65 .f32) :
    out_B_5 c i arg2 harg2 arg3 harg3 arg4 harg4 arg5 harg5 arg6 harg6 arg7 harg7 arg8 harg8 hc0 hc1 hc2 x0 x1 x2 x3 x4 xo xs
      = k1_pay2 (F := Ideal) (part (i 1).val x0 x1 x2 x3 xs) xo := by
  unfold out_B_5
  rw [View.read_writes_eq_canon _ _ _ (cover_B_5 c i arg2 harg2 arg3 harg3 arg4 harg4 arg5 harg5 arg6 harg6 arg7 harg7 arg8 harg8 hc0 hc1 hc2 x0 x1 x2 x3 x4 xo xs)]
  unfold kernelRun_B
  dsimp only
  sl_unfold_words
  rw [View.canon_unit_zero (S := S1x1x1024x64) hz4]
  simp only [View.readAt_eq_ld, harg2.read_unread, harg3.read_unread, harg4.read_unread, harg5.read_unread, harg6.read_unread, harg7.read_unread, harg8.read_unread,
    View.ld_unit_zero (S := S1x1x1024x64) hz4, View.ld_unit_zero (S := S1x1x1024x2) hz4, View.ld_unit_zero (S := S1x1x1024x4) hz4, View.ld_unit_zero (S := S1x3x1024) hz3, View.ld_unit_zero (S := S1024x65) hz2, View.ld_unit_zero (S := S1x1) hz2]
  rw [one]
  rfl

/-- A later point leaves the kept values alone. -/
theorem sout_B (hc0 : ¬cond_0 i) (hc1 : ¬cond_1 i) (hc2 : cond_2 i) (xo : Vec Ideal S1x1x1024x64 .f32) (xs : Vec Ideal S1024x65 .f32) :
    sout_B_0 c i arg2 harg2 arg3 harg3 arg4 harg4 arg5 harg5 arg6 harg6 arg7 harg7 arg8 harg8 hc0 hc1 hc2 x0 x1 x2 x3 x4 xo xs = xs := rfl

/-- The values kept by a first point: its block of values beside a column of ones. -/
def kept (x4 : Vec Ideal S1x1x1024x64 .f32) : Vec Ideal S1024x65 .f32 := fun j =>
  if h : (j 1).val < 64 then x4 (ix4 0 0 ⟨(j 0).val, (j 0).isLt⟩ ⟨(j 1).val, h⟩) else 1

/-- The two stores of a first point, the later one first. -/
abbrev stores (x4 : Vec Ideal S1x1x1024x64 .f32) : List (View.Piece (Elt Ideal) S1024x65 .f32) :=
  [⟨Rect.unit ![0, 64] ![1024, 1] inb_S1024x65_S1024x1_0_64, k1_pay9 (F := Ideal)⟩, ⟨Rect.unit ![0, 0] ![1024, 64] inb_S1024x65_S1024x64_0_0, k1_pay8 (F := Ideal) x4⟩]

theorem stores_cover (y : S1024x65.Idx) : ∃ p ∈ stores x4, y ∈ p.1.set :=
  View.cover_of_tiledBy (stores x4) ![1024, 1] (by sl_kernel_rfl) y

/-- A first point stores its block of values and a column of ones. -/
theorem canon_kept : View.canon (stores x4) = kept x4 := by
  funext y
  obtain ⟨r, l, rfl⟩ : ∃ (r : Fin 1024) (l : Fin 65), y = (ix2 r l : S1024x65.Idx) := ⟨⟨(y 0).val, (y 0).isLt⟩, ⟨(y 1).val, (y 1).isLt⟩, by funext a; fin_cases a <;> rfl⟩
  have hr := r.isLt
  by_cases h : l.val < 64
  · rw [View.canon_cons_of_not_mem]
    · have e : (ix2 r l : S1024x65.Idx) = (Rect.unit (s := S1024x65) ![0, 0] ![1024, 64] inb_S1024x65_S1024x64_0_0).emb (ix2 r ⟨l.val, h⟩ : S1024x64.Idx) := by
        funext a; fin_cases a <;> exact Fin.ext (by simp [Rect.emb, Rect.unit])
      conv_lhs => rw [e]
      refine (View.canon_cons_emb _ _ _ _).trans ?_
      have : kept x4 (ix2 r l) = x4 (ix4 0 0 r ⟨l.val, h⟩) := dif_pos h
      rw [this]
      pointwise [k1_pay8]
    · intro hm
      have hm' : (ix2 r l : S1024x65.Idx) ∈ (Rect.unit (s := S1024x65) ![0, 64] ![1024, 1] inb_S1024x65_S1024x1_0_64).set := hm
      rw [Rect.mem_set_unit] at hm'
      have := hm' 1
      have h2 : 64 ≤ l.val := this.1
      omega
  · have e : (ix2 r l : S1024x65.Idx) = (Rect.unit (s := S1024x65) ![0, 64] ![1024, 1] inb_S1024x65_S1024x1_0_64).emb (ix2 r 0 : S1024x1.Idx) := by
      funext a; fin_cases a
      · exact Fin.ext (by simp [Rect.emb, Rect.unit])
      · exact Fin.ext (by simp [Rect.emb, Rect.unit]; omega)
    conv_lhs => rw [e]
    refine (View.canon_cons_emb _ _ _ _).trans ?_
    have : kept x4 (ix2 r l) = 1 := dif_neg h
    rw [this]
    pointwise [k1_pay9]

/-- What a first point keeps. -/
theorem sout_A (hc0 : cond_0 i) (hc1 : cond_1 i) (hc2 : ¬cond_2 i) :
    sout_A_0 c i arg2 harg2 arg3 harg3 arg4 harg4 arg5 harg5 arg6 harg6 arg7 harg7 arg8 harg8 hc0 hc1 hc2 x0 x1 x2 x3 x4 = kept x4 := by
  unfold sout_A_0
  rw [View.read_writes_eq_canon _ _ _ (scover_A_0 c i arg2 harg2 arg3 harg3 arg4 harg4 arg5 harg5 arg6 harg6 arg7 harg7 arg8 harg8 hc0 hc1 hc2 x0 x1 x2 x3 x4)]
  unfold kernelRun_A
  dsimp only
  sl_unfold_words
  simp only [View.readAt_eq_ld, harg2.read_unread, harg3.read_unread, harg4.read_unread, harg5.read_unread, harg6.read_unread, harg7.read_unread, harg8.read_unread,
    View.ld_unit_zero (S := S1x1x1024x64) hz4, View.ld_unit_zero (S := S1x1x1024x2) hz4, View.ld_unit_zero (S := S1x1x1024x4) hz4, View.ld_unit_zero (S := S1x3x1024) hz3, View.ld_unit_zero (S := S1024x65) hz2, View.ld_unit_zero (S := S1x1) hz2]
  exact canon_kept x4

/-- At a first point: this point's part over the values just kept. -/
theorem out_A (hc0 : cond_0 i) (hc1 : cond_1 i) (hc2 : ¬cond_2 i) :
    out_A_5 c i arg2 harg2 arg3 harg3 arg4 harg4 arg5 harg5 arg6 harg6 arg7 harg7 arg8 harg8 hc0 hc1 hc2 x0 x1 x2 x3 x4
      = k1_pay1 (F := Ideal) (part (i 1).val x0 x1 x2 x3 (kept x4)) := by
  unfold out_A_5
  rw [View.read_writes_eq_canon _ _ _ (cover_A_5 c i arg2 harg2 arg3 harg3 arg4 harg4 arg5 harg5 arg6 harg6 arg7 harg7 arg8 harg8 hc0 hc1 hc2 x0 x1 x2 x3 x4)]
  unfold kernelRun_A
  dsimp only
  sl_unfold_words
  rw [View.canon_unit_zero (S := S1x1x1024x64) hz4]
  simp only [View.readAt_eq_ld, harg2.read_unread, harg3.read_unread, harg4.read_unread, harg5.read_unread, harg6.read_unread, harg7.read_unread, harg8.read_unread,
    View.ld_unit_zero (S := S1x1x1024x64) hz4, View.ld_unit_zero (S := S1x1x1024x2) hz4, View.ld_unit_zero (S := S1x1x1024x4) hz4, View.ld_unit_zero (S := S1x3x1024) hz3, View.ld_unit_zero (S := S1024x65) hz2, View.ld_unit_zero (S := S1x1) hz2]
  have e : arg8.view.readCov (stores x4) (Rect.unit ![0, 0] ![1024, 65] inb_S1024x65_S1024x65_0_0).toLoadRect = kept x4 := by
    rw [View.readCov_eq_canon_ld _ _ _ (stores_cover x4), canon_kept]
    exact View.ld_unit_zero (S := S1024x65) hz2 _ _
  rw [e, one]
  rfl

end Cert.KernelIdeal.KnnCases

end
-- ==== Proof.KernelIdeal.KnnValue.lean ====
/- What the attention region's array holds after its run. -/
module

public import proofs.«01_k».proof.Proof.KernelIdeal.KnnCases
public import Idealize.ShloMosaic.Lib.Pipeline.ValueKit

@[expose] public section

set_option maxRecDepth 16384

noncomputable section

namespace Cert.KernelIdeal.KnnValue

open Idealize.ShloMosaic Idealize.ShloMosaic.TcCoe Idealize.SL.Sem Idealize.SL.RA
open Cert.KernelIdeal Cert.KernelIdeal.Gen Cert.KernelIdeal.KnnRegion Cert.KernelIdeal.KnnPay Cert.KernelIdeal.KnnCases Cert.Shepard

variable (V : (c : Dev nD) → (b : Ref sig .tc) → Buf (Elt Ideal) ((c : Thread nD τ).loc b))

theorem idx : ∀ t : Fin cfg1.N, win1_0.index t = ![0, 0] ∧ win1_1.index t = ![t.val / 64, t.val / 4 % 16 * 4 + t.val % 4, 0, 0]
    ∧ win1_2.index t = ![t.val / 64, t.val / 4 % 16, 0, 0] ∧ win1_3.index t = ![t.val / 64, 0, 0]
    ∧ win1_4.index t = ![t.val / 64, t.val / 4 % 16, 0, 0] ∧ win1_5.index t = ![t.val / 64, t.val / 4 % 16, 0, 0] :=
  (by decide +kernel : ∀ t : Fin grid1.N, _)

theorem step : ∀ t : Fin cfg1.N, (grid1.coords t 1).val = t.val % 4 := (by decide +kernel : ∀ t : Fin grid1.N, _)

theorem lt128 (t : Fin cfg1.N) : t.val < 128 := lt_of_lt_of_eq t.isLt N_1

/-- The point's batch entry. -/
def bat (t : Fin cfg1.N) : Fin 2 := ⟨t.val / 64, by have := lt128 t; omega⟩
/-- The point's head. -/
def head (t : Fin cfg1.N) : Fin 16 := ⟨t.val / 4 % 16, by omega⟩
/-- The point's sampling location within its head. -/
def loc (t : Fin cfg1.N) : Fin 4 := ⟨t.val % 4, by omega⟩
/-- The location's number among a token's sixty-four. -/
def spotNo (h : Fin 16) (k : Fin 4) : Fin 64 := ⟨h.val * 4 + k.val, by omega⟩

theorem power_at (c : Dev nD) (t : Fin cfg1.N) :
    (iblk V c 0 t : FVec Ideal S1x1 .f32) (ix2 0 0) = (V c main_v24 : FVec Ideal S1x1 .f32) (ix2 0 0) := by
  blk_ext [iblk, idx t]

theorem samp_at (c : Dev nD) (t : Fin cfg1.N) (r : Fin 1024) (e : Fin 2) :
    (iblk V c 1 t : FVec Ideal S1x1x1024x2 .f32) (ix4 0 0 r e)
      = (V c main_v19 : FVec Ideal S2x64x1024x2 .f32) (ix4 (bat t) (spotNo (head t) (loc t)) r e) := by
  blk_ext [iblk, idx t, bat, head, loc, spotNo]

theorem attn_at (c : Dev nD) (t : Fin cfg1.N) (r : Fin 1024) (k : Fin 4) :
    (iblk V c 2 t : FVec Ideal S1x1x1024x4 .f32) (ix4 0 0 r k)
      = (V c main_v21 : FVec Ideal S2x16x1024x4 .f32) (ix4 (bat t) (head t) r k) := by
  blk_ext [iblk, idx t, bat, head]

theorem paug_at (c : Dev nD) (t : Fin cfg1.N) (e : Fin 3) (n : Fin 1024) :
    (iblk V c 3 t : FVec Ideal S1x3x1024 .f32) (ix3 0 e n)
      = (V c main_v17 : FVec Ideal S2x3x1024 .f32) (ix3 (bat t) e n) := by
  blk_ext [iblk, idx t, bat]

theorem vals_at (c : Dev nD) (t : Fin cfg1.N) (n : Fin 1024) (l : Fin 64) :
    (iblk V c 4 t : FVec Ideal S1x1x1024x64 .f32) (ix4 0 0 n l)
      = (V c main_v23 : FVec Ideal S2x16x1024x64 .f32) (ix4 (bat t) (head t) n l) := by
  blk_ext [iblk, idx t, bat, head]

/-- An index of a block with two leading axes of one. -/
theorem idx4 {a b : ℕ} (y : (⟨4, ![1, 1, a, b]⟩ : Shape).Idx) : ∃ (r : Fin a) (j : Fin b), y = ix4 0 0 r j :=
  ⟨y 2, y 3, by funext k; fin_cases k; · exact Subsingleton.elim (α := Fin 1) _ _
                · exact Subsingleton.elim (α := Fin 1) _ _
                · rfl
                · rfl⟩

/-- A location's contribution to an entry of its head: power `p`, locations `Q`, shares `A`, position table `T` and values `X`. -/
def contribOf (p : EReal) (Q : FVec Ideal S2x64x1024x2 .f32) (A : FVec Ideal S2x16x1024x4 .f32) (T : FVec Ideal S2x3x1024 .f32)
    (X : FVec Ideal S2x16x1024x64 .f32) (b : Fin 2) (h : Fin 16) (k : Fin 4) (r : Fin 1024) (l : Fin 64) : EReal :=
  contrib p (fun e => Q (ix4 b (spotNo h k) r e)) (fun n e => T (ix3 b ⟨e.val, by omega⟩ n)) (fun n => X (ix4 b h n l)) (A (ix4 b h r k))

/-- A location's contribution, from the region's arrays. -/
def term (c : Dev nD) (b : Fin 2) (h : Fin 16) (k : Fin 4) (r : Fin 1024) (l : Fin 64) : EReal :=
  contribOf ((V c main_v24 : FVec Ideal S1x1 .f32) (ix2 0 0)) (V c main_v19) (V c main_v21) (V c main_v17) (V c main_v23) b h k r l

/-- The third row of a position table holds the squared norms of its points. -/
def SquaresOf (T : FVec Ideal S2x3x1024 .f32) : Prop := ∀ (b : Fin 2) (n : Fin 1024),
  T (ix3 b 2 n) = T (ix3 b 0 n) * T (ix3 b 0 n) + T (ix3 b 1 n) * T (ix3 b 1 n)

/-- The third row of the region's table holds the squared norms of the points. -/
def Squares (c : Dev nD) : Prop := SquaresOf (V c main_v17)

/-- One point's part is its term. -/
theorem part_at (c : Dev nD) (hS : Squares V c) (t : Fin cfg1.N) (r : Fin 1024) (l : Fin 64) :
    part (grid1.coords t 1).val (iblk V c 0 t) (iblk V c 1 t) (iblk V c 2 t) (iblk V c 3 t) (kept (iblk V c 4 t)) (ix2 r l)
      = term V c (bat t) (head t) (loc t) r l := by
  have hk : (grid1.coords t 1).val = (loc t).val := step t
  rw [hk]
  unfold part
  rw [pay12_block (loc t) _ _ _ _ _ r l]
  · have e1 : spot (iblk V c 1 t) r = fun e => (V c main_v19 : FVec Ideal S2x64x1024x2 .f32) (ix4 (bat t) (spotNo (head t) (loc t)) r e) :=
      funext fun e => samp_at V c t r e
    have e2 : table (iblk V c 3 t) = fun n e => (V c main_v17 : FVec Ideal S2x3x1024 .f32) (ix3 (bat t) ⟨e.val, by omega⟩ n) :=
      funext fun n => funext fun e => paug_at V c t _ n
    have e3 : (fun n : Fin 1024 => kept (iblk V c 4 t) (ix2 n ⟨l.val, by omega⟩ : S1024x65.Idx))
        = fun n => (V c main_v23 : FVec Ideal S2x16x1024x64 .f32) (ix4 (bat t) (head t) n l) :=
      funext fun n => (dif_pos l.isLt).trans (vals_at V c t n l)
    unfold term contribOf
    rw [← e1, ← e2, ← e3, ← attn_at V c t r (loc t), ← power_at V c t]
  · intro n
    rw [paug_at, paug_at, paug_at]
    exact hS (bat t) n
  · intro n
    exact dif_neg (fun h : (64 : ℕ) < 64 => absurd h (by decide))

/-- The kept values are those of the round's block. -/
theorem kept_at (c : Dev nD) : ∀ t : Fin cfg1.N, (outsAt V c t.val t.isLt).2 = kept (iblk V c 4 t) := by
  suffices H : ∀ (n : ℕ) (hn : n < cfg1.N), (outsAt V c n hn).2 = kept (iblk V c 4 ⟨n, hn⟩) from fun t => H t.val t.isLt
  intro n
  induction n with
  | zero => intro hn; rw [outsAt_A V c ⟨0, hn⟩ rfl rfl (fun h : 1 ≤ 0 % 4 => absurd h (by decide))]; dsimp only; rw [sout_A]
  | succ n ih =>
    intro hn
    by_cases h : (n + 1) % 4 = 0
    · rw [outsAt_A V c ⟨n + 1, hn⟩ h h (fun h' : 1 ≤ (n + 1) % 4 => by omega)]; dsimp only; rw [sout_A]
    · rw [outsAt_B V c ⟨n + 1, hn⟩ h h (by show 1 ≤ (n + 1) % 4; omega)]
      dsimp only
      rw [sout_B]
      refine (ih (Nat.lt_of_succ_lt hn)).trans ?_
      refine congrArg kept (funext fun y => ?_)
      obtain ⟨r, l, rfl⟩ := idx4 (a := 1024) (b := 64) y
      rw [vals_at, vals_at]
      have e1 : bat ⟨n, Nat.lt_of_succ_lt hn⟩ = bat ⟨n + 1, hn⟩ := Fin.ext (by show n / 64 = (n + 1) / 64; omega)
      have e2 : head ⟨n, Nat.lt_of_succ_lt hn⟩ = head ⟨n + 1, hn⟩ := Fin.ext (by show n / 4 % 16 = (n + 1) / 4 % 16; omega)
      rw [e1, e2]

theorem pay1_at (x : FVec Ideal S1024x64 .f32) (r : Fin 1024) (l : Fin 64) :
    k1_pay1 (F := Ideal) x (ix4 0 0 r l) = x (ix2 r l) := by
  pointwise [k1_pay1]

theorem pay2_at (x : FVec Ideal S1024x64 .f32) (o : FVec Ideal S1x1x1024x64 .f32) (r : Fin 1024) (l : Fin 64) :
    k1_pay2 (F := Ideal) x o (ix4 0 0 r l) = o (ix4 0 0 r l) + x (ix2 r l) := by
  pointwise [k1_pay2]

/-- A point's term at an index of its block. -/
def termAt (c : Dev nD) (t : Fin cfg1.N) (y : S1x1x1024x64.Idx) : EReal := term V c (bat t) (head t) (loc t) (y 2) (y 3)

theorem reset (c : Dev nD) (hS : Squares V c) (t : Fin cfg1.N) (h : t.val % 4 = 0) (y : S1x1x1024x64.Idx) :
    (outsAt V c t.val t.isLt).1 y = (0 : EReal) + termAt V c t y := by
  obtain ⟨r, l, rfl⟩ := idx4 (a := 1024) (b := 64) y
  rw [outsAt_A V c t h h (by omega), zero_add]
  dsimp only
  rw [out_A, pay1_at, part_at V c hS t]
  rfl

theorem stepped (c : Dev nD) (hS : Squares V c) (t : Fin cfg1.N) (h : ¬t.val % 4 = 0) (y : S1x1x1024x64.Idx) :
    (outsAt V c t.val t.isLt).1 y
      = ((outsAt V c (t.val - 1) (Nat.lt_of_le_of_lt (Nat.sub_le _ _) t.isLt)).1 y : EReal) + termAt V c t y := by
  obtain ⟨r, l, rfl⟩ := idx4 (a := 1024) (b := 64) y
  have hk := kept_at V c t
  rw [outsAt_B V c t h h (by omega)] at hk ⊢
  dsimp only at hk ⊢
  rw [sout_B] at hk
  rw [out_B, pay2_at, hk, part_at V c hS t]
  rfl

/-- The attention array: at each head the sum of its four locations' contributions. -/
def attended (c : Dev nD) (i : S2x16x1024x64.Idx) : EReal := ∑ k : Fin 4, term V c (i 0) (i 1) k (i 2) (i 3)

theorem emb_out (t : Fin cfg1.N) (r : Fin 1024) (l : Fin 64) :
    ((View.whole main_v25).slice (win1_5.rect t)).emb (ix4 0 0 r l : (⟨4, ![1, 1, 1024, 64]⟩ : Shape).Idx)
      = (ix4 (bat t) (head t) r l : (⟨4, ![2, 16, 1024, 64]⟩ : Shape).Idx) := by
  funext k; fin_cases k <;> exact Fin.ext (by blk_simp [idx t, bat, head] <;> rfl)

theorem array (c : Dev nD) (hS : Squares V c) : (dat V c).arrAt 5 cfg1.N = attended V c := by
  refine (dat V c).arrAt_eq_of_covers 5 _ (by decide +kernel) fun t hf y => ?_
  obtain ⟨r, l, rfl⟩ := idx4 (a := 1024) (b := 64) y
  blk_simp
  rw [after_5, emb_out]
  have hm : t.val % 4 = 3 := (flush1_5 t).mp hf
  refine (Pipeline.eq_sum_fin_of_reset_step_apply_of_flush (N := cfg1.N) (M := EReal) (fun n h => (outsAt V c n h).1) 4 (fun _ => 0)
    (fun t y => termAt V c t y) (reset V c hS) (stepped V c hS) t hm _).trans ?_
  refine (zero_add (M := EReal) _).trans (Finset.sum_congr rfl fun k _ => ?_)
  have ht := lt128 t
  have hk := k.isLt
  show term V c _ _ _ r l = term V c (bat t) (head t) k r l
  congr 1
  · exact Fin.ext (by show (4 * (t.val / 4) + k.val) / 64 = t.val / 64; omega)
  · exact Fin.ext (by show (4 * (t.val / 4) + k.val) / 4 % 16 = t.val / 4 % 16; omega)
  · exact Fin.ext (by show (4 * (t.val / 4) + k.val) % 4 = k.val; omega)

end Cert.KernelIdeal.KnnValue

end
-- ==== Proof.KernelIdeal.OutCases.lean ====
/- What the output projection's body computes, entry by entry, and what it leaves in its buffer in each of its two cases. -/
module

public import proofs.«01_k».proof.Proof.KernelIdeal.OutRegion
public import Idealize.ShloMosaic.Lib.Pointwise
public import Idealize.ShloMosaic.Lib.Pipeline.Value
public import Idealize.ShloMosaic.Lib.Tactic

@[expose] public section

set_option maxRecDepth 16384

noncomputable section

namespace Cert.KernelIdeal.OutCases

open Idealize.ShloMosaic Idealize.ShloMosaic.TcCoe Idealize.SL.Sem
open Cert.KernelIdeal Cert.KernelIdeal.Gen Cert.KernelIdeal.OutRegion

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One head's part of an entry: the head's row against the column of its weights. -/
def part (x0 : FVec Ideal S1x1x1024x64 .f32) (x1 : FVec Ideal S1x64x1024 .f32) (n o : Fin 1024) : EReal :=
  ∑ c : Fin 64, x0 (ix4 0 0 n c) * x1 (ix3 0 c o)

theorem pay2_at (x0 : FVec Ideal S1x1x1024x64 .f32) (x1 : FVec Ideal S1x64x1024 .f32) (x2 : FVec Ideal S1x1024 .f32) (n o : Fin 1024) :
    k2_pay2 (F := Ideal) x0 x1 x2 (ix3 0 n o) = part x0 x1 n o + x2 (ix2 0 o) := by
  pointwise [k2_pay2, k2_pay1, part]

theorem pay3_at (x0 : FVec Ideal S1x1x1024x64 .f32) (x1 : FVec Ideal S1x64x1024 .f32) (x2 : FVec Ideal S1x1024x1024 .f32) (n o : Fin 1024) :
    k2_pay3 (F := Ideal) x0 x1 x2 (ix3 0 n o) = x2 (ix3 0 n o) + part x0 x1 n o := by
  pointwise [k2_pay3, k2_pay1, part]

variable (c : Dev nD) (i : grid2.Coords)
  (arg2 : Memref sig .tc .vmem S1x1x1024x64 .f32) (harg2 : arg2.IsWhole)
  (arg3 : Memref sig .tc .vmem S1x64x1024 .f32) (harg3 : arg3.IsWhole)
  (arg4 : Memref sig .tc .vmem S1x1024 .f32) (harg4 : arg4.IsWhole)
  (arg5 : Memref sig .tc .vmem S1x1024x1024 .f32) (harg5 : arg5.IsWhole)
  (x0 : Vec Ideal S1x1x1024x64 .f32) (x1 : Vec Ideal S1x64x1024 .f32) (x2 : Vec Ideal S1x1024 .f32)

/-- At a first head: its part plus the bias. -/
theorem out_A (hc0 : cond_0 i) (hc1 : ¬cond_1 i) :
    out_A_3 c i arg2 harg2 arg3 harg3 arg4 harg4 arg5 harg5 hc0 hc1 x0 x1 x2 = k2_pay2 (F := Ideal) x0 x1 x2 := by
  unfold out_A_3
  rw [View.read_writes_eq_canon _ _ _ (cover_A_3 c i arg2 harg2 arg3 harg3 arg4 harg4 arg5 harg5 hc0 hc1 x0 x1 x2)]
  unfold kernelRun_A
  dsimp only
  sl_unfold_words
  rw [View.canon_unit_zero (S := S1x1024x1024) hz3]
  simp only [View.readAt_eq_ld, harg2.read_unread, harg3.read_unread, harg4.read_unread, harg5.read_unread,
    View.ld_unit_zero (S := S1x1x1024x64) hz4, View.ld_unit_zero (S := S1x64x1024) hz3, View.ld_unit_zero (S := S1x1024) hz2]

/-- At a later head: what the block held plus its part. -/
theorem out_B (hc0 : ¬cond_0 i) (hc1 : cond_1 i) (xo : Vec Ideal S1x1024x1024 .f32) :
    out_B_3 c i arg2 harg2 arg3 harg3 arg4 harg4 arg5 harg5 hc0 hc1 x0 x1 x2 xo = k2_pay3 (F := Ideal) x0 x1 xo := by
  unfold out_B_3
  rw [View.read_writes_eq_canon _ _ _ (cover_B_3 c i arg2 harg2 arg3 harg3 arg4 harg4 arg5 harg5 hc0 hc1 x0 x1 x2 xo)]
  unfold kernelRun_B
  dsimp only
  sl_unfold_words
  rw [View.canon_unit_zero (S := S1x1024x1024) hz3]
  simp only [View.readAt_eq_ld, harg2.read_unread, harg3.read_unread, harg4.read_unread, harg5.read_unread,
    View.ld_unit_zero (S := S1x1x1024x64) hz4, View.ld_unit_zero (S := S1x64x1024) hz3, View.ld_unit_zero (S := S1x1024x1024) hz3]

end Cert.KernelIdeal.OutCases

end
-- ==== Proof.KernelIdeal.OutValue.lean ====
/- What the output projection's array holds after its run. -/
module

public import proofs.«01_k».proof.Proof.KernelIdeal.OutCases
public import Idealize.ShloMosaic.Lib.Pipeline.ValueKit

@[expose] public section

set_option maxRecDepth 16384

noncomputable section

namespace Cert.KernelIdeal.OutValue

open Idealize.ShloMosaic Idealize.ShloMosaic.TcCoe Idealize.SL.Sem Idealize.SL.RA
open Cert.KernelIdeal Cert.KernelIdeal.Gen Cert.KernelIdeal.OutRegion Cert.KernelIdeal.OutCases

variable (V : (c : Dev nD) → (b : Ref sig .tc) → Buf (Elt Ideal) ((c : Thread nD τ).loc b))

theorem idx : ∀ t : Fin cfg2.N, win2_0.index t = ![t.val / 16, t.val % 16, 0, 0] ∧ win2_1.index t = ![t.val % 16, 0, 0]
    ∧ win2_2.index t = ![0, 0] ∧ win2_3.index t = ![t.val / 16, 0, 0] :=
  (by decide +kernel : ∀ t : Fin grid2.N, _)

theorem lt32 (t : Fin cfg2.N) : t.val < 32 := lt_of_lt_of_eq t.isLt N_2

/-- The point's batch entry. -/
def bat (t : Fin cfg2.N) : Fin 2 := ⟨t.val / 16, by have := lt32 t; omega⟩
/-- The point's head. -/
def head (t : Fin cfg2.N) : Fin 16 := ⟨t.val % 16, by omega⟩

theorem heads_at (c : Dev nD) (t : Fin cfg2.N) (n : Fin 1024) (l : Fin 64) :
    (iblk V c 0 t : FVec Ideal S1x1x1024x64 .f32) (ix4 0 0 n l)
      = (V c main_v25 : FVec Ideal S2x16x1024x64 .f32) (ix4 (bat t) (head t) n l) := by
  blk_ext [iblk, idx t, bat, head]

theorem weights_at (c : Dev nD) (t : Fin cfg2.N) (l : Fin 64) (o : Fin 1024) :
    (iblk V c 1 t : FVec Ideal S1x64x1024 .f32) (ix3 0 l o) = (V c main_v27 : FVec Ideal S16x64x1024 .f32) (ix3 (head t) l o) := by
  blk_ext [iblk, idx t, head]

theorem bias_at (c : Dev nD) (t : Fin cfg2.N) (o : Fin 1024) :
    (iblk V c 2 t : FVec Ideal S1x1024 .f32) (ix2 0 o) = (V c main_v28 : FVec Ideal S1x1024 .f32) (ix2 0 o) := by
  blk_ext [iblk, idx t]

/-- An index of a block with a leading axis of one. -/
theorem idx3 {a b : ℕ} (y : (⟨3, ![1, a, b]⟩ : Shape).Idx) : ∃ (r : Fin a) (j : Fin b), y = ix3 0 r j :=
  ⟨y 1, y 2, by funext k; fin_cases k; · exact Subsingleton.elim (α := Fin 1) _ _
                · rfl
                · rfl⟩

/-- One head's part of an entry: its attended row against its column of weights. -/
def headSum (A : FVec Ideal S2x16x1024x64 .f32) (W : FVec Ideal S16x64x1024 .f32) (b : Fin 2) (h : Fin 16) (n o : Fin 1024) : EReal :=
  ∑ l : Fin 64, A (ix4 b h n l) * W (ix3 h l o)

/-- One head's part of an entry, from the region's arrays. -/
def term (c : Dev nD) (b : Fin 2) (h : Fin 16) (n o : Fin 1024) : EReal := headSum (V c main_v25) (V c main_v27) b h n o

theorem part_at (c : Dev nD) (t : Fin cfg2.N) (n o : Fin 1024) :
    part (iblk V c 0 t) (iblk V c 1 t) n o = term V c (bat t) (head t) n o := by
  unfold part term headSum
  simp only [heads_at, weights_at]

/-- A column's bias. -/
def biasOf (B : FVec Ideal S1x1024 .f32) (o : Fin 1024) : EReal := B (ix2 0 o)

/-- What every entry starts from: the bias of its column. -/
def start (c : Dev nD) (y : S1x1024x1024.Idx) : EReal := biasOf (V c main_v28) (y 2)

/-- A point's term at an index of its block. -/
def termAt (c : Dev nD) (t : Fin cfg2.N) (y : S1x1024x1024.Idx) : EReal := term V c (bat t) (head t) (y 1) (y 2)

theorem reset (c : Dev nD) (t : Fin cfg2.N) (h : t.val % 16 = 0) (y : S1x1024x1024.Idx) :
    (outsAt V c t.val t.isLt) y = start V c y + termAt V c t y := by
  obtain ⟨n, o, rfl⟩ := idx3 (a := 1024) (b := 1024) y
  rw [outsAt_A V c t h (by omega)]
  rw [out_A, pay2_at, part_at, bias_at]
  exact add_comm _ _

theorem stepped (c : Dev nD) (t : Fin cfg2.N) (h : ¬t.val % 16 = 0) (y : S1x1024x1024.Idx) :
    (outsAt V c t.val t.isLt) y
      = ((outsAt V c (t.val - 1) (Nat.lt_of_le_of_lt (Nat.sub_le _ _) t.isLt)) y : EReal) + termAt V c t y := by
  obtain ⟨n, o, rfl⟩ := idx3 (a := 1024) (b := 1024) y
  rw [outsAt_B V c t h (by omega)]
  rw [out_B, pay3_at, part_at]
  rfl

/-- The result array: the bias plus every head's part. -/
def projected (c : Dev nD) (i : S2x1024x1024.Idx) : EReal :=
  biasOf (V c main_v28) (i 2) + ∑ h : Fin 16, term V c (i 0) h (i 1) (i 2)

theorem emb_out (t : Fin cfg2.N) (n o : Fin 1024) :
    ((View.whole main_v29).slice (win2_3.rect t)).emb (ix3 0 n o : (⟨3, ![1, 1024, 1024]⟩ : Shape).Idx)
      = (ix3 (bat t) n o : (⟨3, ![2, 1024, 1024]⟩ : Shape).Idx) := by
  funext k; fin_cases k <;> exact Fin.ext (by blk_simp [idx t, bat] <;> rfl)

theorem array (c : Dev nD) : (dat V c).arrAt 3 cfg2.N = projected V c := by
  refine (dat V c).arrAt_eq_of_covers 3 _ (by decide +kernel) fun t hf y => ?_
  obtain ⟨n, o, rfl⟩ := idx3 (a := 1024) (b := 1024) y
  blk_simp
  rw [after_3, emb_out]
  have hm : t.val % 16 = 15 := (flush2_3 t).mp hf
  refine (Pipeline.eq_sum_fin_of_reset_step_apply_of_flush (N := cfg2.N) (M := EReal) (fun n h => outsAt V c n h) 16 (start V c)
    (fun t y => termAt V c t y) (reset V c) (stepped V c) t hm _).trans ?_
  refine congrArg (fun s : EReal => _ + s) (Finset.sum_congr rfl fun k _ => ?_)
  have ht := lt32 t
  have hk := k.isLt
  show term V c _ _ n o = term V c (bat t) k n o
  congr 1
  · exact Fin.ext (by show (16 * (t.val / 16) + k.val) / 16 = t.val / 16; omega)
  · exact Fin.ext (by show (16 * (t.val / 16) + k.val) % 16 = k.val; omega)

end Cert.KernelIdeal.OutValue

end
-- ==== Proof.KernelIdeal.Value.lean ====
/- What the kernel's program leaves in its result array, as a function of its arguments. -/
module

public import proofs.«01_k».proof.Proof.KernelIdeal.Stretches
public import proofs.«01_k».proof.Proof.KernelIdeal.ProjValue
public import proofs.«01_k».proof.Proof.KernelIdeal.KnnValue
public import proofs.«01_k».proof.Proof.KernelIdeal.OutValue

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Whole Cert.Shepard

variable (m : (ℓ : Loc nD τ sig) → Buf (Elt Ideal) ℓ) (c : Dev nD)

/-- The kernel's row product is the linear layer when its weights are the transposed ones. -/
theorem lin_eq {k : ℕ} (x : FVec Ideal S2x1024x1024 .f32) (W : FVec Ideal ⟨2, ![1024, k]⟩ .f32) (B : FVec Ideal ⟨2, ![1, k]⟩ .f32)
    (W' : FVec Ideal ⟨2, ![k, 1024]⟩ .f32) (B' : FVec Ideal ⟨1, ![k]⟩ .f32) (hW : ∀ d j, W (ix2 d j) = W' (ix2 j d))
    (hB : ∀ j, B (ix2 0 j) = B' (ix1 j)) (b : Fin 2) (n : Fin 1024) (j : Fin k) :
    ProjValue.lin x W B b n j = linear x W' B' b n j := by
  unfold ProjValue.lin linear
  simp only [hW, hB]

theorem arg (r : Ref sig .tc) (h : r ∉ hostOps0_W) : refsOf (U1 m) c r = m ((c : Thread nD τ).loc r) := U1_of m c r h

theorem lin_so (b : Fin 2) (n : Fin 1024) (j : Fin 128) :
    ProjValue.lin (refsOf (U1 m) c main_arg0) (refsOf (U1 m) c main_v0) (refsOf (U1 m) c main_v1) b n j
      = linear (m ((c : Thread nD τ).loc main_arg0)) (m ((c : Thread nD τ).loc main_arg2)) (m ((c : Thread nD τ).loc main_arg3)) b n j := by
  rw [arg m c main_arg0 (by decide)]
  exact lin_eq _ _ _ _ _ (Stretches.v0 _) (Stretches.v1 _) b n j

theorem lin_aw (b : Fin 2) (n : Fin 1024) (j : Fin 64) :
    ProjValue.lin (refsOf (U1 m) c main_arg0) (refsOf (U1 m) c main_v2) (refsOf (U1 m) c main_v3) b n j
      = linear (m ((c : Thread nD τ).loc main_arg0)) (m ((c : Thread nD τ).loc main_arg4)) (m ((c : Thread nD τ).loc main_arg5)) b n j := by
  rw [arg m c main_arg0 (by decide)]
  exact lin_eq _ _ _ _ _ (Stretches.v2 _) (Stretches.v3 _) b n j

theorem lin_v (b : Fin 2) (n : Fin 1024) (j : Fin 1024) :
    ProjValue.lin (refsOf (U1 m) c main_arg0) (refsOf (U1 m) c main_v4) (refsOf (U1 m) c main_v5) b n j
      = linear (m ((c : Thread nD τ).loc main_arg0)) (m ((c : Thread nD τ).loc main_arg6)) (m ((c : Thread nD τ).loc main_arg7)) b n j := by
  rw [arg m c main_arg0 (by decide)]
  exact lin_eq _ _ _ _ _ (Stretches.v4 _) (Stretches.v5 _) b n j

/-- The locations' array after the projection. -/
theorem places_at (b : Fin 2) (n : Fin 1024) (l : Fin 64) (e : Fin 2) :
    (U2 m c main_v6_0 : FVec Ideal S2x1024x128 .f32) (ix3 b n ⟨2 * l.val + e.val, by omega⟩)
      = place (m ((c : Thread nD τ).loc main_arg0)) (m ((c : Thread nD τ).loc main_arg1)) (m ((c : Thread nD τ).loc main_arg2))
          (m ((c : Thread nD τ).loc main_arg3)) b n l e := by
  have h : U2 m c main_v6_0 = ProjValue.placesOf (refsOf (U1 m)) c :=
    (Pipeline.afterRegion_arr (dat0 m c) (U1 m c) launch0.win.arr_inj 8).trans (ProjValue.places Variants.none (refsOf (U1 m)) 0 c)
  rw [h, ProjValue.placesOf_at, lin_so, arg m c main_arg1 (by decide)]
  rfl

/-- The attention array after the projection. -/
theorem shares_at (b : Fin 2) (n : Fin 1024) (l : Fin 64) :
    (U2 m c main_v6_1 : FVec Ideal S2x1024x64 .f32) (ix3 b n l)
      = share (fun j => linear (m ((c : Thread nD τ).loc main_arg0)) (m ((c : Thread nD τ).loc main_arg4))
          (m ((c : Thread nD τ).loc main_arg5)) b n j) l := by
  have h : U2 m c main_v6_1 = ProjValue.sharesOf (refsOf (U1 m)) c :=
    (Pipeline.afterRegion_arr (dat0 m c) (U1 m c) launch0.win.arr_inj 9).trans (ProjValue.shares Variants.none (refsOf (U1 m)) 0 c)
  rw [h]
  exact congrArg (fun f => share f l) (funext fun j => lin_aw m c b n j)

/-- The values' array after the projection. -/
theorem values_at (b : Fin 2) (n : Fin 1024) (l : Fin 1024) :
    (U2 m c main_v6_2 : FVec Ideal S2x1024x1024 .f32) (ix3 b n l)
      = linear (m ((c : Thread nD τ).loc main_arg0)) (m ((c : Thread nD τ).loc main_arg6)) (m ((c : Thread nD τ).loc main_arg7)) b n l := by
  have h : U2 m c main_v6_2 = ProjValue.valuesOf (refsOf (U1 m)) c :=
    (Pipeline.afterRegion_arr (dat0 m c) (U1 m c) launch0.win.arr_inj 10).trans (ProjValue.values Variants.none (refsOf (U1 m)) 0 c)
  rw [h]
  exact lin_v m c b n l

theorem arg2 (r : Ref sig .tc) (h : r ∉ hostOps0_W) (h1 : ∀ w, Pipeline.arrRef spec0 w = r → (cfg0.win w).isOut = false) :
    U2 m c r = m ((c : Thread nD τ).loc r) := (U2_of m c r h1).trans (U1_of m c r h)

/-- The position table of the attention region. -/
theorem table_eq : refsOf (U3 m) c main_v17 = Stretches.stacked (m ((c : Thread nD τ).loc main_arg1)) :=
  (Stretches.v17 (U2 m c)).trans (congrArg Stretches.stacked (arg2 m c main_arg1 (by decide) (by decide)))

theorem squares : KnnValue.Squares (refsOf (U3 m)) c := by
  unfold KnnValue.Squares
  rw [table_eq]
  intro b n
  rw [Stretches.stacked_0, Stretches.stacked_1, Stretches.stacked_2]

/-- The attention region's array: every head's output. -/
theorem heads_at (b : Fin 2) (h : Fin 16) (n : Fin 1024) (l : Fin 64) :
    (U4 m c main_v25 : FVec Ideal S2x16x1024x64 .f32) (ix4 b h n l)
      = headOut ((m ((c : Thread nD τ).loc main_arg10) : FVec Ideal S_ .f32) ix0) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) b h n l := by
  have e : U4 m c main_v25 = KnnValue.attended (refsOf (U3 m)) c :=
    (Pipeline.afterRegion_arr (dat1 m c) (U3 m c) launch1.win.arr_inj 5).trans (KnnValue.array (refsOf (U3 m)) c (squares m c))
  rw [e]
  unfold headOut
  show (∑ k : Fin 4, KnnValue.contribOf _ _ _ _ _ b h k n l : EReal) = _
  refine Finset.sum_congr rfl fun k _ => ?_
  unfold KnnValue.contribOf
  have e0 : (refsOf (U3 m) c main_v24 : FVec Ideal S1x1 .f32) (ix2 0 0) = (m ((c : Thread nD τ).loc main_arg10) : FVec Ideal S_ .f32) ix0 :=
    (Stretches.v24 (U2 m c)).trans (congrArg (fun f : FVec Ideal S_ .f32 => f ix0) (arg2 m c main_arg10 (by decide) (by decide)))
  have e1 : (fun e : Fin 2 => (refsOf (U3 m) c main_v19 : FVec Ideal S2x64x1024x2 .f32) (ix4 b (KnnValue.spotNo h k) n e))
      = place (m ((c : Thread nD τ).loc main_arg0)) (m ((c : Thread nD τ).loc main_arg1)) (m ((c : Thread nD τ).loc main_arg2))
          (m ((c : Thread nD τ).loc main_arg3)) b n ⟨h.val * 4 + k.val, by omega⟩ :=
    funext fun e => (Stretches.v19 (U2 m c) b _ n e).trans (places_at m c b n _ e)
  have e2 : (refsOf (U3 m) c main_v21 : FVec Ideal S2x16x1024x4 .f32) (ix4 b h n k) = _ :=
    (Stretches.v21 (U2 m c) b h n k).trans (shares_at m c b n _)
  have e3 : (fun n' : Fin 1024 => (refsOf (U3 m) c main_v23 : FVec Ideal S2x16x1024x64 .f32) (ix4 b h n' l)) = _ :=
    funext fun n' => (Stretches.v23 (U2 m c) b h n' l).trans (values_at m c b n' _)
  have e4 : (fun (n' : Fin 1024) (e : Fin 2) => (refsOf (U3 m) c main_v17 : FVec Ideal S2x3x1024 .f32) (ix3 b ⟨e.val, by omega⟩ n'))
      = fun n' e => (m ((c : Thread nD τ).loc main_arg1) : FVec Ideal S2x1024x2 .f32) (ix3 b n' e) := by
    rw [table_eq]
    funext n' e
    fin_cases e
    · exact Stretches.stacked_0 _ b n'
    · exact Stretches.stacked_1 _ b n'
  rw [e0, e1, e2, e3, e4]

theorem arg4 (r : Ref sig .tc) (h0 : r ∉ hostOps0_W) (h1 : ∀ w, Pipeline.arrRef spec0 w = r → (cfg0.win w).isOut = false)
    (h2 : r ∉ hostOps1_W) (h3 : ∀ w, Pipeline.arrRef spec1 w = r → (cfg1.win w).isOut = false) :
    U4 m c r = m ((c : Thread nD τ).loc r) := (U4_of m c r h3).trans ((U3_of m c r h2).trans (arg2 m c r h0 h1))

/-- The result array, entry by entry. -/
theorem result_at (b : Fin 2) (n o : Fin 1024) :
    (U6 m c main_v29 : FVec Ideal S2x1024x1024 .f32) (ix3 b n o)
      = result ((m ((c : Thread nD τ).loc main_arg10) : FVec Ideal S_ .f32) ix0) (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) b n o := by
  have e : U6 m c main_v29 = OutValue.projected (refsOf (U5 m)) c :=
    (Pipeline.afterRegion_arr (dat2 m c) (U5 m c) launch2.win.arr_inj 3).trans (OutValue.array (refsOf (U5 m)) c)
  rw [e]
  have eb : (refsOf (U5 m) c main_v28 : FVec Ideal S1x1024 .f32) (ix2 0 o) = (m ((c : Thread nD τ).loc main_arg9) : FVec Ideal S1024 .f32) (ix1 o) :=
    (Stretches.v28 (U4 m c) o).trans (congrArg (fun f : FVec Ideal S1024 .f32 => f (ix1 o)) (arg4 m c main_arg9 (by decide) (by decide) (by decide) (by decide)))
  have ew (h : Fin 16) (l : Fin 64) : (refsOf (U5 m) c main_v27 : FVec Ideal S16x64x1024 .f32) (ix3 h l o)
      = (m ((c : Thread nD τ).loc main_arg8) : FVec Ideal S1024x1024 .f32) (ix2 o ⟨h.val * 64 + l.val, by omega⟩) :=
    (Stretches.v27 (U4 m c) h l o).trans (congrArg (fun f : FVec Ideal S1024x1024 .f32 => f (ix2 o _)) (arg4 m c main_arg8 (by decide) (by decide) (by decide) (by decide)))
  have eh : refsOf (U5 m) c main_v25 = U4 m c main_v25 := U5_of m c main_v25 (by decide)
  show OutValue.biasOf _ o + ∑ h : Fin 16, OutValue.headSum _ _ b h n o = _
  unfold OutValue.biasOf OutValue.headSum result
  rw [eb]
  refine congrArg (fun s : EReal => (_ : EReal) + s) (Finset.sum_congr rfl fun h _ => Finset.sum_congr rfl fun l _ => ?_)
  rw [ew, eh, heads_at]

end Cert.KernelIdeal.Value

end
-- ==== Proof.Shepard.Order.lean ====
/- The nearest points: when the five smallest distances are different, the values up to the fourth least are the first four
   of the sorted order. -/
module

public import proofs.«01_k».proof.Proof.Shepard.Spec

@[expose] public section

noncomputable section

namespace Cert.Shepard

open Idealize.ShloMosaic

/-- `σ` lists the five smallest values of `d` in increasing order, without a tie; every other value is at least the fifth. -/
structure Nearest (d : Fin 1024 → EReal) (σ : Fin 5 → Fin 1024) : Prop where
  strict : ∀ f : Fin 4, d (σ f.castSucc) < d (σ f.succ)
  rest : ∀ n, (∃ f : Fin 4, n = σ f.castSucc) ∨ d (σ 4) ≤ d n

/-- The least value, when it is taken. -/
theorem least_eq (d : Fin 1024 → EReal) (m : Fin 1024) (h : ∀ n, d m ≤ d n) : Finset.univ.fold min ⊤ d = d m :=
  le_antisymm (Finset.fold_min_le (d m) |>.mpr (Or.inr ⟨m, Finset.mem_univ _, le_rfl⟩))
    (Finset.le_fold_min (d m) |>.mpr ⟨le_top, fun n _ => h n⟩)

/-- The least value above `t`, when nothing lies strictly between. -/
theorem above_eq (d : Fin 1024 → EReal) (t : EReal) (m : Fin 1024) (ht : t < d m) (h : ∀ n, d n ≤ t ∨ d m ≤ d n) : above d t = d m := by
  unfold above
  refine le_antisymm (Finset.fold_min_le (d m) |>.mpr (Or.inr ⟨m, Finset.mem_univ _, ?_⟩)) (Finset.le_fold_min (d m) |>.mpr ⟨le_top, fun n _ => ?_⟩)
  · rw [if_neg (not_le.mpr ht)]
  · split
    · exact le_top
    · rename_i hn
      exact (h n).resolve_left hn

namespace Nearest

variable {d : Fin 1024 → EReal} {σ : Fin 5 → Fin 1024} (h : Nearest d σ)

include h

theorem lt01 : d (σ 0) < d (σ 1) := h.strict 0
theorem lt12 : d (σ 1) < d (σ 2) := h.strict 1
theorem lt23 : d (σ 2) < d (σ 3) := h.strict 2
theorem lt34 : d (σ 3) < d (σ 4) := h.strict 3

/-- Every value is one of the first four or at least the fifth. -/
theorem cases (n : Fin 1024) : n = σ 0 ∨ n = σ 1 ∨ n = σ 2 ∨ n = σ 3 ∨ d (σ 4) ≤ d n := by
  rcases h.rest n with ⟨f, rfl⟩ | hn
  · fin_cases f
    · exact Or.inl rfl
    · exact Or.inr (Or.inl rfl)
    · exact Or.inr (Or.inr (Or.inl rfl))
    · exact Or.inr (Or.inr (Or.inr (Or.inl rfl)))
  · exact Or.inr (Or.inr (Or.inr (Or.inr hn)))

/-- The fourth least value is the fourth of the order. -/
theorem fourth_eq : fourth d = d (σ 3) := by
  have h01 := h.lt01
  have h12 := h.lt12
  have h23 := h.lt23
  have h34 := h.lt34
  have e0 : Finset.univ.fold min ⊤ d = d (σ 0) := least_eq d (σ 0) fun n => by
    rcases h.cases n with rfl | rfl | rfl | rfl | hn
    · exact le_rfl
    · exact h01.le
    · exact (h01.trans h12).le
    · exact (h01.trans (h12.trans h23)).le
    · exact (h01.trans (h12.trans (h23.trans h34))).le.trans hn
  have e1 : above d (d (σ 0)) = d (σ 1) := above_eq d _ (σ 1) h01 fun n => by
    rcases h.cases n with rfl | rfl | rfl | rfl | hn
    · exact Or.inl le_rfl
    · exact Or.inr le_rfl
    · exact Or.inr h12.le
    · exact Or.inr (h12.trans h23).le
    · exact Or.inr ((h12.trans (h23.trans h34)).le.trans hn)
  have e2 : above d (d (σ 1)) = d (σ 2) := above_eq d _ (σ 2) h12 fun n => by
    rcases h.cases n with rfl | rfl | rfl | rfl | hn
    · exact Or.inl h01.le
    · exact Or.inl le_rfl
    · exact Or.inr le_rfl
    · exact Or.inr h23.le
    · exact Or.inr ((h23.trans h34).le.trans hn)
  have e3 : above d (d (σ 2)) = d (σ 3) := above_eq d _ (σ 3) h23 fun n => by
    rcases h.cases n with rfl | rfl | rfl | rfl | hn
    · exact Or.inl (h01.trans h12).le
    · exact Or.inl h12.le
    · exact Or.inl le_rfl
    · exact Or.inr le_rfl
    · exact Or.inr (h34.le.trans hn)
  unfold fourth
  rw [e0, e1, e2, e3]

/-- The points up to the fourth least value are the first four of the order. -/
theorem le_fourth_iff (n : Fin 1024) : d n ≤ fourth d ↔ n ∈ Finset.univ.image fun f : Fin 4 => σ f.castSucc := by
  have h01 := h.lt01
  have h12 := h.lt12
  have h23 := h.lt23
  have h34 := h.lt34
  rw [h.fourth_eq]
  simp only [Finset.mem_image, Finset.mem_univ, true_and]
  constructor
  · intro hn
    rcases h.rest n with ⟨f, rfl⟩ | hr
    · exact ⟨f, rfl⟩
    · exact absurd (h34.trans_le hr) (not_lt.mpr hn)
  · rintro ⟨f, rfl⟩
    fin_cases f
    · exact (h01.trans (h12.trans h23)).le
    · exact (h12.trans h23).le
    · exact h23.le
    · exact le_rfl

/-- The first four of the order are different points. -/
theorem injective : Function.Injective fun f : Fin 4 => σ f.castSucc := by
  have hm : StrictMono fun f : Fin 5 => d (σ f) := Fin.strictMono_iff_lt_succ.mpr h.strict
  intro f g e
  exact Fin.castSucc_injective 4 (hm.injective (congrArg d e))

/-- A sum over the points up to the fourth least value is the sum over the first four. -/
theorem sum_eq (g : Fin 1024 → EReal) : (∑ n, if d n ≤ fourth d then g n else 0) = ∑ f : Fin 4, g (σ f.castSucc) := by
  simp only [h.le_fourth_iff]
  rw [Finset.sum_ite_mem, Finset.univ_inter, Finset.sum_image fun _ _ _ _ e => h.injective e]

end Nearest

/-- The first five of an order without inversion, when their values are different. -/
theorem nearest_of_sorted (d : Fin 1024 → EReal) (π : Fin 1024 → Fin 1024) (hs : Function.Surjective π)
    (hm : ∀ i j, i < j → d (π i) ≤ d (π j)) (hd : ∀ f : Fin 4, d (π ⟨f.val, by omega⟩) < d (π ⟨f.val + 1, by omega⟩)) :
    Nearest d fun f => π ⟨f.val, by omega⟩ where
  strict := hd
  rest n := by
    obtain ⟨i, rfl⟩ := hs n
    by_cases hi : i.val < 4
    · exact Or.inl ⟨⟨i.val, hi⟩, rfl⟩
    · refine Or.inr ?_
      rcases lt_or_eq_of_le (not_lt.mp hi) with h | h
      · exact hm _ _ h
      · exact le_of_eq (congrArg (fun k => d (π k)) (Fin.ext h))

end Cert.Shepard

end
-- ==== Proof.Reference.Linear.lean ====
/- What the reference's linear layers and its locations hold, at an index. -/
module

public import proofs.«01_k».proof.Proof.Shepard.Spec
public import proofs.«01_k».proof.Proof.Gen.ReferenceIdeal.Read
public import Idealize.ShloMosaic.Lib.Pointwise

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

/-- The offsets are a linear layer. -/
theorem v4_at (x : FVec Ideal S2x1024x1024 .f32) (W : FVec Ideal S128x1024 .f32) (bias : FVec Ideal S128 .f32) (b : Fin 2) (n : Fin 1024) (j : Fin 128) :
    val_main_v4 (F := Ideal) x W bias (ix3 b n j) = linear x W bias b n j := by
  unfold linear
  pointwise [val_main_v4, val_main_v3, val_main_v2, val_main_v1, val_main_v0]

/-- The scores are a linear layer. -/
theorem v10_at (x : FVec Ideal S2x1024x1024 .f32) (W : FVec Ideal S64x1024 .f32) (bias : FVec Ideal S64 .f32) (b : Fin 2) (n : Fin 1024) (j : Fin 64) :
    val_main_v10 (F := Ideal) x W bias (ix3 b n j) = linear x W bias b n j := by
  unfold linear
  pointwise [val_main_v10, val_main_v9, val_main_v8, val_main_v7, val_main_v6]

/-- The values are a linear layer. -/
theorem v30_at (x : FVec Ideal S2x1024x1024 .f32) (W : FVec Ideal S1024x1024 .f32) (bias : FVec Ideal S1024 .f32) (b : Fin 2) (h : Fin 16) (n : Fin 1024)
    (l : Fin 64) :
    val_main_v30 (F := Ideal) x W bias (ix3 ⟨b.val * 16 + h.val, by omega⟩ n l) = linear x W bias b n ⟨h.val * 64 + l.val, by omega⟩ := by
  unfold linear
  pointwise [val_main_v30, val_main_v29, val_main_v28, val_main_v27, val_main_v26, val_main_v25, val_main_v24, val_main_v23]

/-- The sampling locations. -/
theorem v35_at (x : FVec Ideal S2x1024x1024 .f32) (pos : FVec Ideal S2x1024x2 .f32) (W : FVec Ideal S128x1024 .f32) (bias : FVec Ideal S128 .f32) (b : Fin 2)
    (h : Fin 16) (n : Fin 1024) (k : Fin 4) (e : Fin 2) :
    val_main_v35 (F := Ideal) x pos W bias (ix3 ⟨b.val * 16 + h.val, by omega⟩ ⟨n.val * 4 + k.val, by omega⟩ e)
      = place x pos W bias b n ⟨h.val * 4 + k.val, by omega⟩ e := by
  unfold place
  rw [← v4_at]
  refine Eq.trans ?_ (add_comm (pos (ix3 b n e) : EReal) _)
  pointwise [val_main_v35, val_main_v34, val_main_v33, val_main_v32, val_main_v31, val_main_v5]
  exact congrArg (HAdd.hAdd _) (congrArg (fun j => val_main_v4 (F := Ideal) x W bias (ix3 b n j)) (Fin.ext (by
    show h.val * 8 + k.val * 2 + e.val = 2 * (h.val * 4 + k.val) + e.val
    omega)))

/-- The positions, once per head. -/
theorem v38_at (pos : FVec Ideal S2x1024x2 .f32) (b : Fin 2) (h : Fin 16) (n : Fin 1024) (e : Fin 2) :
    val_main_v38 (F := Ideal) pos (ix3 ⟨b.val * 16 + h.val, by omega⟩ n e) = pos (ix3 b n e) := by
  pointwise [val_main_v38, val_main_v37, val_main_v36]

end Cert.Reference

end
-- ==== Proof.Reference.Sorted.lean ====
/- The sorted order of a row of values, and what a host top-k of it holds. -/
module

public import proofs.«01_k».proof.Proof.Shepard.Order
public import proofs.«01_k».proof.Proof.Reference.Linear
public import Idealize.ShloMosaic.Lib.SortFacts

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

/-- The order of a row of 1024 values from the greatest down. -/
def order (y : Fin 1024 → EReal) : Fin 1024 → Fin 1024 :=
  sortedFrom fun k k' => Ideal.cmp .ogt (y k) (y k') == 1#1

/-- A comparison of extended reals holds exactly when its bit is set. -/
theorem gt_iff (a b : EReal) : (Ideal.cmp .ogt a b == 1#1) = decide (b < a) := by
  unfold Ideal.cmp
  by_cases h : b < a <;> simp [h]

/-- The order takes every place. -/
theorem order_surjective (y : Fin 1024 → EReal) : Function.Surjective (order y) := sortedFrom_surjective _

/-- Later in the order is not greater. -/
theorem order_anti (y : Fin 1024 → EReal) (i j : Fin 1024) (hij : i < j) : y (order y j) ≤ y (order y i) := by
  have h := sortedFrom_noInversion (fun k k' => Ideal.cmp .ogt (y k) (y k') == 1#1) (fun k k' => Ideal.cmp .ogt (y k) (y k') == 1#1)
    (fun a b h => by rw [gt_iff] at h ⊢; simp only [decide_eq_true_eq, decide_eq_false_iff_not, not_lt] at h ⊢; exact h.le)
    (fun a b h => h)
    (fun a b c h h' => by rw [gt_iff] at h h' ⊢; simp only [decide_eq_false_iff_not, not_lt] at h h' ⊢; exact h.trans h') i j hij
  rw [gt_iff] at h
  simp only [decide_eq_false_iff_not, not_lt] at h
  exact h

/-- A row's index with its last coordinate replaced. -/
theorem along_last (g : Fin 32) (q : Fin 4096) (f k : Fin 1024) : Shape.Idx.along (s := S32x4096x1024) (ix3 g q f) (2 : Fin 3) k = ix3 g q k := by
  funext a
  match a with
  | ⟨0, _⟩ => rfl
  | ⟨1, _⟩ => rfl
  | ⟨2, _⟩ => rfl

/-- The sort behind a top-k, at an index. -/
theorem sort2_at {β : Type} (y : FVec Ideal S32x4096x1024 .f32) (w : S32x4096x1024.Idx → β) (g : Fin 32) (q : Fin 4096) (f : Fin 1024) :
    (Host.sort2 S32x4096x1024 2 (fun l r : Ideal .f32 × β => FloatOps.cmpfTotal .gt l.1 r.1) y w).1 (ix3 g q f)
        = y (ix3 g q (order (fun k => y (ix3 g q k)) f))
      ∧ (Host.sort2 S32x4096x1024 2 (fun l r : Ideal .f32 × β => FloatOps.cmpfTotal .gt l.1 r.1) y w).2 (ix3 g q f)
        = w (ix3 g q (order (fun k => y (ix3 g q k)) f)) := by
  have hπ : sortedFrom (fun k k' : Fin 1024 => FloatOps.cmpfTotal (F := Ideal) (φ := .f32) .gt (y (Shape.Idx.along (s := S32x4096x1024) (ix3 g q f) (2 : Fin 3) k))
      (y (Shape.Idx.along (s := S32x4096x1024) (ix3 g q f) (2 : Fin 3) k')) == 1#1) f = order (fun k => y (ix3 g q k)) f := by
    unfold order
    refine congrArg (fun b => sortedFrom b f) (funext fun k => funext fun k' => ?_)
    rw [along_last, along_last]
    rfl
  constructor
  · show y (Shape.Idx.along (s := S32x4096x1024) (ix3 g q f) (2 : Fin 3) (sortedFrom _ f)) = _
    exact (congrArg (fun k => y (Shape.Idx.along (s := S32x4096x1024) (ix3 g q f) (2 : Fin 3) k)) hπ).trans (congrArg y (along_last g q f _))
  · show w (Shape.Idx.along (s := S32x4096x1024) (ix3 g q f) (2 : Fin 3) (sortedFrom _ f)) = _
    exact (congrArg (fun k => w (Shape.Idx.along (s := S32x4096x1024) (ix3 g q f) (2 : Fin 3) k)) hπ).trans (congrArg w (along_last g q f _))

/-- An index of a top-k, in the array it is taken from. -/
theorem first_at {m : ℕ} (hm : m ≤ 1024) (h : S32x4096x1024.Slices (fun _ => 0) ⟨3, ![32, 4096, m]⟩) {α : Type} (y : S32x4096x1024.Idx → α) (g : Fin 32)
    (q : Fin 4096) (f : Fin m) :
    extractStridedSlice ⟨3, ![32, 4096, m]⟩ (fun _ => 0) y h (ix3 g q f) = y (ix3 g q ⟨f.val, by omega⟩) := by
  unfold extractStridedSlice
  refine congrArg y ?_
  funext a
  match a with
  | ⟨0, _⟩ => exact Fin.ext (Nat.zero_add _)
  | ⟨1, _⟩ => exact Fin.ext (Nat.zero_add _)
  | ⟨2, _⟩ => exact Fin.ext (Nat.zero_add _)

/-- The places a top-k sorts along with the values. -/
def places : IVec S32x4096x1024 32 := fun i => if hd : 2 < S32x4096x1024.rank then iotaInDim S32x4096x1024 32 ⟨2, hd⟩ i else 0#32

/-- The values of a top-k. -/
theorem topK_values {m : ℕ} (hm : m ≤ 1024) (h : S32x4096x1024.Slices (fun _ => 0) ⟨3, ![32, 4096, m]⟩) (y : FVec Ideal S32x4096x1024 .f32) (g : Fin 32)
    (q : Fin 4096) (f : Fin m) :
    (Host.topK ⟨3, ![32, 4096, m]⟩ 2 (FloatOps.cmpfTotal (F := Ideal) (φ := .f32) .gt) y h).1 (ix3 g q f)
      = y (ix3 g q (order (fun k => y (ix3 g q k)) ⟨f.val, by omega⟩)) := by
  unfold Host.topK
  exact (first_at hm h _ g q f).trans (sort2_at y places g q _).1

/-- The places of a top-k, as words. -/
theorem topK_places {m : ℕ} (hm : m ≤ 1024) (h : S32x4096x1024.Slices (fun _ => 0) ⟨3, ![32, 4096, m]⟩) (y : FVec Ideal S32x4096x1024 .f32) (g : Fin 32)
    (q : Fin 4096) (f : Fin m) :
    (Host.topK ⟨3, ![32, 4096, m]⟩ 2 (FloatOps.cmpfTotal (F := Ideal) (φ := .f32) .gt) y h).2 (ix3 g q f)
      = BitVec.ofNat 32 (order (fun k => y (ix3 g q k)) ⟨f.val, by omega⟩).val := by
  unfold Host.topK
  exact (first_at hm h _ g q f).trans (sort2_at y places g q _).2

end Cert.Reference

end
-- ==== Proof.Shepard.Math.lean ====
/- The equation between the kernel's and the reference's formulas, over the extended reals. -/
module

public import proofs.«01_k».proof.Proof.Shepard.Order

@[expose] public section

noncomputable section

namespace Cert.Shepard

open Idealize.ShloMosaic

/-- A sum of reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative real over a sum. -/
theorem mul_sum_coe {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

/-- An extended real that is neither infinity is a real. -/
theorem real_of {x : EReal} (ht : x ≠ ⊤) (hb : x ≠ ⊥) : ∃ r : ℝ, x = r := ⟨x.toReal, (EReal.coe_toReal ht hb).symm⟩

/-- The greatest of some extended reals below infinity, one of which is real, is real. -/
theorem fold_max_real {ι : Type} [Fintype ι] (z : ι → EReal) (hz : ∀ i, z i < ⊤) (i : ι) (hi : ⊥ < z i) :
    ∃ M : ℝ, Finset.univ.fold max ⊥ z = M := by
  refine real_of (ne_of_lt ((Finset.fold_max_lt ⊤).mpr ⟨bot_lt_top, fun j _ => hz j⟩)) (ne_of_gt (lt_of_lt_of_le hi ?_))
  exact (Finset.le_fold_max (z i)).mpr (Or.inr ⟨i, Finset.mem_univ _, le_rfl⟩)

/-- A quotient of exponentials of which a common factor cancels. -/
theorem quot_eq {ι : Type} [Fintype ι] (e : ι → ℝ) (K : ℝ) (hK : 0 < K) (hS : 0 < ∑ i, e i) (E : ι → EReal) (hE : ∀ i, E i = ((e i * K : ℝ) : EReal)) (j : ι) :
    Ideal.div (E j) (∑ i, E i) = ((e j / ∑ i, e i : ℝ) : EReal) := by
  have hs : (∑ i, E i) = ((∑ i, e i) * K : ℝ) := by
    rw [Finset.sum_mul, coe_sum]
    exact Finset.sum_congr rfl fun i _ => hE i
  rw [hs, hE j, Ideal.div_coe (mul_pos hS hK).ne', ← EReal.coe_mul]
  congr 1
  field_simp

/-- The exponential of a value below infinity less a real: a real with a factor of its own, zero at the lower infinity only. -/
theorem exp_below {x : EReal} (h : x < ⊤) :
    ∃ q : ℝ, 0 ≤ q ∧ (⊥ < x → 0 < q) ∧ (x = ⊥ → q = 0) ∧ ∀ M : ℝ, Ideal.exp (x - (M : EReal)) = ((q * Real.exp (-M) : ℝ) : EReal) := by
  induction x with
  | bot => exact ⟨0, le_rfl, fun h => absurd h (lt_irrefl _), fun _ => rfl, fun M => by rw [EReal.bot_sub, zero_mul]; rfl⟩
  | top => exact absurd h (lt_irrefl _)
  | coe z =>
    exact ⟨Real.exp z, (Real.exp_pos z).le, fun _ => Real.exp_pos z, fun e => absurd e (EReal.coe_ne_bot z), fun M => by
      rw [← EReal.coe_sub, Ideal.exp_coe, sub_eq_add_neg, Real.exp_add]⟩

/-- Zero over zero. -/
theorem div_zero_zero : Ideal.div 0 0 = ⊥ := by simp [Ideal.div]

/-- The greatest of lower infinities. -/
theorem fold_max_bot {ι : Type} [Fintype ι] (z : ι → EReal) (hz : ∀ i, z i = ⊥) : Finset.univ.fold max ⊥ z = ⊥ :=
  le_bot_iff.mp ((Finset.fold_max_le ⊥).mpr ⟨le_rfl, fun i _ => (hz i).le⟩)

/-- The exponential of the lower infinity less anything. -/
theorem exp_bot_sub (M : EReal) : Ideal.exp (⊥ - M) = 0 := by rw [EReal.bot_sub]; rfl

/-- The reference's softmax over four scores. -/
def soft (z : Fin 4 → EReal) (k : Fin 4) : EReal :=
  Ideal.div (Ideal.exp (z k - Finset.univ.fold max ⊥ z)) (∑ i, Ideal.exp (z i - Finset.univ.fold max ⊥ z))

/-- The softmax of lower infinities. -/
theorem soft_bot (z : Fin 4 → EReal) (hz : ∀ i, z i = ⊥) (k : Fin 4) : soft z k = ⊥ := by
  unfold soft
  simp only [hz, exp_bot_sub, Finset.sum_const_zero, div_zero_zero]

/-- The softmax of scores below infinity, one of which is real. -/
theorem soft_real (z : Fin 4 → EReal) (hz : ∀ i, z i < ⊤) (q : Fin 4 → ℝ)
    (hq : ∀ i, 0 ≤ q i ∧ (⊥ < z i → 0 < q i) ∧ (z i = ⊥ → q i = 0) ∧ ∀ M : ℝ, Ideal.exp (z i - (M : EReal)) = ((q i * Real.exp (-M) : ℝ) : EReal))
    (j : Fin 4) (hj : ⊥ < z j) (k : Fin 4) : soft z k = ((q k / ∑ i, q i : ℝ) : EReal) := by
  obtain ⟨M, hM⟩ := fold_max_real z hz j hj
  unfold soft
  rw [hM]
  exact quot_eq q (Real.exp (-M)) (Real.exp_pos _) (Finset.sum_pos' (fun i _ => (hq i).1) ⟨j, Finset.mem_univ _, (hq j).2.1 hj⟩)
    (fun i => Ideal.exp (z i - M)) (fun i => (hq i).2.2.2 M) k

/-- The sum over the scores of one head among all the scores. -/
theorem sum_head (X : Fin 64 → EReal) (h : Fin 16) :
    (∑ i : Fin 64, X i * (if i.val / 4 = h.val then 1 else 0)) = ∑ k : Fin 4, X ⟨h.val * 4 + k.val, by omega⟩ := by
  rw [Fin.sum_univ_tiles 16 4 rfl]
  rw [Finset.sum_eq_single h]
  · refine Finset.sum_congr rfl fun k _ => ?_
    have hk := k.isLt
    rw [if_pos (by show (h.val * 4 + k.val) / 4 = h.val; omega), mul_one]
  · intro h' _ hne
    refine Finset.sum_eq_zero fun k _ => ?_
    have hk := k.isLt
    rw [if_neg (by show ¬(h'.val * 4 + k.val) / 4 = h.val; intro e; exact hne (Fin.ext (by omega))), mul_zero]
  · intro hn
    exact absurd (Finset.mem_univ _) hn

/-- The kernel's shares of scores below infinity are the softmax of the head's four scores. -/
theorem share_eq (a : Fin 64 → EReal) (ha : ∀ i, a i < ⊤) (h : Fin 16) (k : Fin 4) :
    share a ⟨h.val * 4 + k.val, by omega⟩ = soft (fun i => a ⟨h.val * 4 + i.val, by omega⟩) k := by
  have hd : (h.val * 4 + k.val) / 4 = h.val := by have := k.isLt; omega
  unfold share
  simp only [hd]
  rw [sum_head (fun i => Ideal.exp (a i - Finset.univ.fold max ⊥ a)) h]
  by_cases hb : ∀ i : Fin 4, a ⟨h.val * 4 + i.val, by omega⟩ = ⊥
  · rw [soft_bot _ hb]
    simp only [hb, exp_bot_sub, Finset.sum_const_zero, div_zero_zero]
  · obtain ⟨j, hj⟩ := not_forall.mp hb
    have hj' := bot_lt_iff_ne_bot.mpr hj
    choose q hq using fun i : Fin 4 => exp_below (ha ⟨h.val * 4 + i.val, by omega⟩)
    obtain ⟨M, hM⟩ := fold_max_real a ha _ hj'
    rw [hM, soft_real _ (fun i => ha _) q hq j hj' k]
    exact quot_eq q (Real.exp (-M)) (Real.exp_pos _) (Finset.sum_pos' (fun i _ => (hq i).1) ⟨j, Finset.mem_univ _, (hq j).2.1 hj'⟩)
      (fun i : Fin 4 => Ideal.exp (a ⟨h.val * 4 + i.val, by omega⟩ - M)) (fun i => (hq i).2.2.2 M) k

/-- A millionth. -/
theorem millionth : ∃ e : ℝ, 0 < e ∧ Ideal.ofBits .f32 0x358637BD#32 = e := by
  refine ⟨8796093 * (2 : ℝ) ^ (-43 : ℤ), by positivity, ?_⟩
  simp [Ideal.ofBits, Ideal.ieee]

/-- The exponent's factor is a positive real when the power is not infinite. -/
theorem power_real (p : EReal) (hp : p < ⊤) : ∃ w : ℝ, 0 < w ∧ power p = w := by
  obtain ⟨e, he, hE⟩ := millionth
  obtain ⟨q, hq⟩ := real_of (x := max p 0) (ne_of_lt (max_lt hp EReal.zero_lt_top)) (ne_of_gt (lt_of_lt_of_le EReal.bot_lt_zero (le_max_right p 0)))
  have hq0 : 0 ≤ q := EReal.coe_nonneg.mp (hq ▸ le_max_right p 0)
  exact ⟨q + e, by positivity, by unfold power; rw [hq, hE, EReal.coe_add]⟩

/-- A square is never negative. -/
theorem sq_nonneg' (a : EReal) : 0 ≤ a * a := by
  induction a with
  | bot => simp
  | top => simp
  | coe a => rw [← EReal.coe_mul]; exact EReal.coe_nonneg.mpr (mul_self_nonneg a)

/-- The square of an infinity. -/
theorem sq_top {a : EReal} (h : a = ⊤ ∨ a = ⊥) : a * a = ⊤ := by
  rcases h with rfl | rfl <;> simp

/-- A sum of two squares one of which is infinite. -/
theorem sq_add_top {a b : EReal} (h : (a = ⊤ ∨ a = ⊥) ∨ (b = ⊤ ∨ b = ⊥)) : a * a + b * b = ⊤ := by
  rcases h with h | h
  · rw [sq_top h]; exact EReal.top_add_of_ne_bot (ne_of_gt (lt_of_lt_of_le EReal.bot_lt_zero (sq_nonneg' b)))
  · rw [sq_top h]; exact EReal.add_top_of_ne_bot (ne_of_gt (lt_of_lt_of_le EReal.bot_lt_zero (sq_nonneg' a)))

/-- Infinity less anything is an infinity. -/
theorem top_sub_cases (x : EReal) : (⊤ : EReal) - x = ⊤ ∨ (⊤ : EReal) - x = ⊥ := by
  induction x with
  | bot => left; simp
  | top => right; simp
  | coe x => left; simp

/-- Either an infinity or a real. -/
theorem inf_or_real (x : EReal) : (x = ⊤ ∨ x = ⊥) ∨ ∃ r : ℝ, x = r := by
  by_cases ht : x = ⊤
  · exact Or.inl (Or.inl ht)
  · by_cases hb : x = ⊥
    · exact Or.inl (Or.inr hb)
    · exact Or.inr (real_of ht hb)

/-- A sum of two squares is not the lower infinity. -/
theorem sq_add_ne_bot (a b : EReal) : a * a + b * b ≠ ⊥ :=
  ne_of_gt (lt_of_lt_of_le EReal.bot_lt_zero (add_nonneg (sq_nonneg' a) (sq_nonneg' b)))

/-- Where a squared distance is neither infinity, the location and the point are real. -/
theorem real_of_dist2 (s : Fin 2 → EReal) (P : Fin 1024 → Fin 2 → EReal) (n : Fin 1024) (ht : dist2 s P n ≠ ⊤) (hb : dist2 s P n ≠ ⊥) :
    (∃ s0 s1 : ℝ, s 0 = s0 ∧ s 1 = s1) ∧ ∃ p0 p1 : ℝ, P n 0 = p0 ∧ P n 1 = p1 := by
  have key : ¬((s 0 * s 0 + s 1 * s 1) + (P n 0 * P n 0 + P n 1 * P n 1) = ⊤) := by
    intro e
    unfold dist2 at ht hb
    rw [e] at ht hb
    rcases top_sub_cases (Ideal.ofBits .f32 0x40000000#32 * (s 0 * P n 0 + s 1 * P n 1)) with h | h
    · exact ht h
    · exact hb h
  have hS : ¬((s 0 = ⊤ ∨ s 0 = ⊥) ∨ (s 1 = ⊤ ∨ s 1 = ⊥)) := fun h =>
    key (by rw [sq_add_top h]; exact EReal.top_add_of_ne_bot (sq_add_ne_bot _ _))
  have hP : ¬((P n 0 = ⊤ ∨ P n 0 = ⊥) ∨ (P n 1 = ⊤ ∨ P n 1 = ⊥)) := fun h =>
    key (by rw [sq_add_top h]; exact EReal.add_top_of_ne_bot (sq_add_ne_bot _ _))
  obtain ⟨s0, h0⟩ := (inf_or_real (s 0)).resolve_left fun h => hS (Or.inl h)
  obtain ⟨s1, h1⟩ := (inf_or_real (s 1)).resolve_left fun h => hS (Or.inr h)
  obtain ⟨p0, g0⟩ := (inf_or_real (P n 0)).resolve_left fun h => hP (Or.inl h)
  obtain ⟨p1, g1⟩ := (inf_or_real (P n 1)).resolve_left fun h => hP (Or.inr h)
  exact ⟨⟨s0, s1, h0, h1⟩, ⟨p0, p1, g0, g1⟩⟩

/-- The reference's distance, point less location. -/
def dist' (s : Fin 2 → EReal) (P : Fin 1024 → Fin 2 → EReal) (n : Fin 1024) : EReal :=
  Ideal.sqrt ((P n 0 - s 0) * (P n 0 - s 0) + (P n 1 - s 1) * (P n 1 - s 1))

/-- The square of a difference does not depend on its order. -/
theorem sub_sq_comm (a : ℝ) (b : EReal) : ((a : EReal) - b) * ((a : EReal) - b) = (b - a) * (b - a) := by
  induction b with
  | bot => simp
  | top => simp
  | coe b => rw [← EReal.coe_sub, ← EReal.coe_sub, ← EReal.coe_mul, ← EReal.coe_mul]; congr 1; ring

/-- Both distances agree at a real location. -/
theorem dist_eq (s : Fin 2 → EReal) (P : Fin 1024 → Fin 2 → EReal) (n : Fin 1024) (s0 s1 : ℝ) (h0 : s 0 = s0) (h1 : s 1 = s1) :
    dist s P n = dist' s P n := by
  unfold dist dist'
  rw [h0, h1, sub_sq_comm, sub_sq_comm]

/-- A distance is a nonnegative real or infinite. -/
theorem dist_cases (s : Fin 2 → EReal) (P : Fin 1024 → Fin 2 → EReal) (n : Fin 1024) : dist' s P n = ⊤ ∨ ∃ r : ℝ, dist' s P n = r := by
  unfold dist'
  have h : 0 ≤ (P n 0 - s 0) * (P n 0 - s 0) + (P n 1 - s 1) * (P n 1 - s 1) := add_nonneg (sq_nonneg' _) (sq_nonneg' _)
  generalize (P n 0 - s 0) * (P n 0 - s 0) + (P n 1 - s 1) * (P n 1 - s 1) = x at h
  induction x with
  | bot => exact absurd h (not_le.mpr EReal.bot_lt_zero)
  | top => exact Or.inl rfl
  | coe x => exact Or.inr ⟨Real.sqrt x, by rw [Ideal.sqrt_coe, if_neg (not_lt.mpr (EReal.coe_nonneg.mp h))]⟩

/-- The distance of reals is real. -/
theorem dist_real (s : Fin 2 → EReal) (P : Fin 1024 → Fin 2 → EReal) (n : Fin 1024) (s0 s1 p0 p1 : ℝ) (h0 : s 0 = s0) (h1 : s 1 = s1)
    (g0 : P n 0 = p0) (g1 : P n 1 = p1) : ∃ r : ℝ, dist' s P n = r := by
  unfold dist'
  rw [h0, h1, g0, g1, ← EReal.coe_sub, ← EReal.coe_sub, ← EReal.coe_mul, ← EReal.coe_mul, ← EReal.coe_add, Ideal.sqrt_coe,
    if_neg (not_lt.mpr (add_nonneg (mul_self_nonneg _) (mul_self_nonneg _)))]
  exact ⟨_, rfl⟩

/-- The reference's exponent at a point: the negated factor times the distance plus a millionth. -/
def reach (p : EReal) (s : Fin 2 → EReal) (P : Fin 1024 → Fin 2 → EReal) (n : Fin 1024) : EReal :=
  -power p * (dist' s P n + Ideal.ofBits .f32 0x358637BD#32)

/-- Both programs' exponentials at a distance `D`, with a real factor `w` and a real shift. -/
theorem exp_cases (w e : ℝ) (hw : 0 < w) (D : EReal) (hD : D = ⊤ ∨ ∃ r : ℝ, D = r) :
    ∃ q : ℝ, 0 ≤ q ∧ Ideal.exp ((0 - (w : EReal)) * D) = q
      ∧ (∀ M : ℝ, Ideal.exp (-(w : EReal) * (D + (e : EReal)) - (M : EReal)) = ((q * Real.exp (-w * e - M) : ℝ) : EReal))
      ∧ -(w : EReal) * (D + (e : EReal)) < ⊤ ∧ ((∃ r : ℝ, D = r) → 0 < q ∧ ⊥ < -(w : EReal) * (D + (e : EReal))) := by
  have hz : (0 : EReal) - (w : EReal) = ((-w : ℝ) : EReal) := by rw [zero_sub, EReal.coe_neg]
  have hn : -(w : EReal) = ((-w : ℝ) : EReal) := (EReal.coe_neg w).symm
  rw [hz, hn]
  rcases hD with rfl | ⟨r, rfl⟩
  · have hb : ((-w : ℝ) : EReal) * ⊤ = ⊥ := EReal.coe_mul_top_of_neg (by linarith)
    have ht : (⊤ : EReal) + (e : EReal) = ⊤ := EReal.top_add_coe e
    refine ⟨0, le_rfl, ?_, fun M => ?_, ?_, ?_⟩
    · rw [hb]; rfl
    · rw [ht, hb, EReal.bot_sub, zero_mul]; rfl
    · rw [ht, hb]; exact bot_lt_top
    · rintro ⟨r, hr⟩; exact absurd hr.symm (EReal.coe_ne_top r)
  · refine ⟨Real.exp (-w * r), (Real.exp_pos _).le, ?_, fun M => ?_, ?_, fun _ => ⟨Real.exp_pos _, ?_⟩⟩
    · rw [← EReal.coe_mul, Ideal.exp_coe]
    · rw [← EReal.coe_add, ← EReal.coe_mul, ← EReal.coe_sub, Ideal.exp_coe, ← Real.exp_add]
      congr 2; ring
    · rw [← EReal.coe_add, ← EReal.coe_mul]; exact EReal.coe_lt_top _
    · rw [← EReal.coe_add, ← EReal.coe_mul]; exact EReal.bot_lt_coe _

/-- The kernel's contribution of a location is the attention share times the softmax-weighted sum of the nearest four
    points' values. -/
theorem contrib_eq (p : EReal) (hp : p < ⊤) (s : Fin 2 → EReal) (P : Fin 1024 → Fin 2 → EReal) (v : Fin 1024 → EReal) (a : EReal)
    (σ : Fin 5 → Fin 1024) (h : Nearest (dist2 s P) σ) :
    contrib p s P v a = a * ∑ f : Fin 4, soft (fun i => reach p s P (σ i.castSucc)) f * v (σ f.castSucc) := by
  obtain ⟨⟨s0, s1, h0, h1⟩, ⟨p0, p1, g0, g1⟩⟩ := real_of_dist2 s P (σ 1) (ne_of_lt (lt_of_lt_of_le h.lt12 le_top)) (ne_of_gt (lt_of_le_of_lt bot_le h.lt01))
  obtain ⟨w, hw, hpw⟩ := power_real p hp
  obtain ⟨e, he, hE⟩ := millionth
  choose q hq0 hqk hqr hqt hqp using fun f : Fin 4 => exp_cases w e hw (dist' s P (σ f.castSucc)) (dist_cases s P _)
  have hr1 : ∃ r : ℝ, dist' s P (σ (1 : Fin 4).castSucc) = r := dist_real s P (σ 1) s0 s1 p0 p1 h0 h1 g0 g1
  have hS : 0 < ∑ f, q f := Finset.sum_pos' (fun f _ => hq0 f) ⟨1, Finset.mem_univ _, (hqp 1 hr1).1⟩
  have hreach (f : Fin 4) : reach p s P (σ f.castSucc) = -(w : EReal) * (dist' s P (σ f.castSucc) + (e : EReal)) := by unfold reach; rw [hpw, hE]
  have hsoft (f : Fin 4) : soft (fun i => reach p s P (σ i.castSucc)) f = ((q f / ∑ i, q i : ℝ) : EReal) := by
    simp only [hreach]
    obtain ⟨M, hM⟩ := fold_max_real (fun i : Fin 4 => -(w : EReal) * (dist' s P (σ i.castSucc) + (e : EReal))) hqt 1 (hqp 1 hr1).2
    unfold soft
    rw [hM]
    exact quot_eq q (Real.exp (-w * e - M)) (Real.exp_pos _) hS (fun i => Ideal.exp (-(w : EReal) * (dist' s P (σ i.castSucc) + (e : EReal)) - (M : EReal)))
      (fun i => hqr i M) f
  have hweight (g : Fin 1024 → EReal) : (∑ n, weight p s P n * g n) = ∑ f : Fin 4, (q f : EReal) * g (σ f.castSucc) := by
    have : ∀ n, weight p s P n * g n = if dist2 s P n ≤ fourth (dist2 s P) then Ideal.exp ((0 - power p) * dist s P n) * g n else 0 := fun n => by
      unfold weight
      split
      · rfl
      · rw [zero_mul]
    simp only [this]
    rw [h.sum_eq fun n => Ideal.exp ((0 - power p) * dist s P n) * g n]
    refine Finset.sum_congr rfl fun f _ => ?_
    rw [dist_eq s P _ s0 s1 h0 h1, hpw, hqk]
  unfold contrib
  rw [hweight v, hweight fun _ => 1]
  have hone : (∑ f : Fin 4, (q f : EReal) * 1) = ((∑ f, q f : ℝ) : EReal) := by
    rw [coe_sum]; exact Finset.sum_congr rfl fun f _ => mul_one _
  have hc : (0 : ℝ) ≤ 1 / ∑ f, q f := by positivity
  have hnear : (∑ f : Fin 4, soft (fun i => reach p s P (σ i.castSucc)) f * v (σ f.castSucc))
      = ((1 / ∑ f, q f : ℝ) : EReal) * ∑ f : Fin 4, (q f : EReal) * v (σ f.castSucc) := by
    rw [mul_sum_coe _ _ hc]
    refine Finset.sum_congr rfl fun f _ => ?_
    rw [hsoft f, ← mul_assoc, ← EReal.coe_mul]
    congr 2
    field_simp
  rw [hone, Ideal.div_coe hS.ne', hnear, mul_comm, mul_assoc]

end Cert.Shepard

end
-- ==== Proof.Reference.Precondition.lean ====
/- What the precondition says: scores and a power below infinity, and at every location five strictly increasing least squared distances. -/
module

public import proofs.«01_k».proof.Pre_separated
public import proofs.«01_k».proof.Proof.Reference.Sorted
public import proofs.«01_k».proof.Proof.Shepard.Math

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

/-- The side conditions of the precondition's operations. -/
instance preFacts : Cert.Pre_separated.Facts where
  transposes_S128x1024_S1024x128_1_0 := by decide
  bcast_S128_S1x1x128_2 := by decide
  bcast_S1x1x128_S2x1024x128_0_1_2 := by decide
  shapeCasts_S2x1024x128_S2x1024x16x4x2 := by decide
  transposes_S64x1024_S1024x64_1_0 := by decide
  bcast_S64_S1x1x64_2 := by decide
  bcast_S1x1x64_S2x1024x64_0_1_2 := by decide
  bcast_S2x1024x2_S2x1024x1x1x2_0_1_4 := by decide
  bcast_S2x1024x1x1x2_S2x1024x16x4x2_0_1_2_3_4 := by decide
  transposes_S2x1024x16x4x2_S2x16x1024x4x2_0_2_1_3_4 := by decide
  shapeCasts_S2x16x1024x4x2_S32x4096x2 := by decide
  bcast_S2x1024x2_S2x1x1024x2_0_2_3 := by decide
  bcast_S2x1x1024x2_S2x16x1024x2_0_1_2_3 := by decide
  shapeCasts_S2x16x1024x2_S32x1024x2 := by decide
  reducesTo_S32x4096x2_S32x4096_d2 := by decide
  h_S_ := by decide
  bcast_S32x4096_S32x4096x1_0_1 := by decide
  reducesTo_S32x1024x2_S32x1024_d2 := by decide
  bcast_S32x1024_S32x1x1024_0_2 := by decide
  bcast_S32x4096x1_S32x4096x1024_0_1_2 := by decide
  bcast_S32x1x1024_S32x4096x1024_0_1_2 := by decide
  bcast_S_S32x4096x1024 := by decide
  sliceFits_S32x4096x1024_S32x4096x5 := by decide
  bcast_S_S2x1024x64 := by decide
  slices_S32x4096x5_S32x4096x4_0_0_1 := by decide
  slices_S32x4096x5_S32x4096x4_0_0_0 := by decide
  dot_S2x1024x1024_S1024x128_S2x1024x128_2_0_01_1_n_n_wf := by decide
  dot_S2x1024x1024_S1024x64_S2x1024x64_2_0_01_1_n_n_wf := by decide
  dot_S32x4096x2_S32x1024x2_S32x4096x1024_2_2_1_1_0_0_wf := by decide

variable (x : FVec Ideal S2x1024x1024 .f32) (pos : FVec Ideal S2x1024x2 .f32) (Wso : FVec Ideal S128x1024 .f32) (bso : FVec Ideal S128 .f32)
  (Waw : FVec Ideal S64x1024 .f32) (baw : FVec Ideal S64 .f32) (Wv : FVec Ideal S1024x1024 .f32) (bv : FVec Ideal S1024 .f32)
  (Wo : FVec Ideal S1024x1024 .f32) (bo : FVec Ideal S1024 .f32) (p : FVec Ideal S_ .f32)

/-- A value below the greatest has its comparison's bit set. -/
theorem lt_of_bit {a b : EReal} (h : Ideal.cmp .olt a b = 1#1) : a < b := by
  unfold Ideal.cmp at h
  by_contra hn
  simp [hn] at h

/-- The greatest value. -/
theorem highest : Ideal.ofBits .f32 0x7F800000#32 = (⊤ : EReal) := by
  simp [Ideal.ofBits, Ideal.ieee]

/-- The scores are below infinity. -/
theorem scores_lt (h : (Cert.Pre_separated.fn (F := Ideal) x pos Wso bso Waw baw Wv bv Wo bo p).1 = fun _ => 1#1) (b : Fin 2) (n : Fin 1024) (j : Fin 64) :
    (val_main_v10 (F := Ideal) x Waw baw (ix3 b n j) : EReal) < ⊤ := by
  have hb : Ideal.cmp .olt (val_main_v10 (F := Ideal) x Waw baw (ix3 b n j)) (Ideal.ofBits .f32 0x7F800000#32) = 1#1 := congrFun h (ix3 b n j)
  have hl := lt_of_bit hb
  rwa [highest] at hl

/-- The power is below infinity. -/
theorem power_lt (h : (Cert.Pre_separated.fn (F := Ideal) x pos Wso bso Waw baw Wv bv Wo bo p).2.1 = fun _ => 1#1) : (p ix0 : EReal) < ⊤ := by
  have hb : Ideal.cmp .olt (p ix0) (Ideal.ofBits .f32 0x7F800000#32) = 1#1 := congrFun h ix0
  have hl := lt_of_bit hb
  rwa [highest] at hl

/-- The five greatest negated squared distances strictly decrease. -/
theorem near_lt (h : (Cert.Pre_separated.fn (F := Ideal) x pos Wso bso Waw baw Wv bv Wo bo p).2.2 = fun _ => 1#1) (g : Fin 32) (q : Fin 4096) (f : Fin 4) :
    (val_main_v52 (F := Ideal) x pos Wso bso (ix3 g q (order (fun k => val_main_v52 (F := Ideal) x pos Wso bso (ix3 g q k)) ⟨f.val + 1, by omega⟩)) : EReal)
      < val_main_v52 (F := Ideal) x pos Wso bso (ix3 g q (order (fun k => val_main_v52 (F := Ideal) x pos Wso bso (ix3 g q k)) ⟨f.val, by omega⟩)) := by
  have hb : Ideal.cmp .olt
      (extractStridedSlice S32x4096x4 ![0, 0, 1] (Host.topK Cert.Pre_separated.S32x4096x5 2 (FloatOps.cmpfTotal (F := Ideal) (φ := .f32) .gt)
        (val_main_v52 (F := Ideal) x pos Wso bso) Cert.Pre_separated.Facts.sliceFits_S32x4096x1024_S32x4096x5).1
        Cert.Pre_separated.Facts.slices_S32x4096x5_S32x4096x4_0_0_1 (ix3 g q f))
      (extractStridedSlice S32x4096x4 ![0, 0, 0] (Host.topK Cert.Pre_separated.S32x4096x5 2 (FloatOps.cmpfTotal (F := Ideal) (φ := .f32) .gt)
        (val_main_v52 (F := Ideal) x pos Wso bso) Cert.Pre_separated.Facts.sliceFits_S32x4096x1024_S32x4096x5).1
        Cert.Pre_separated.Facts.slices_S32x4096x5_S32x4096x4_0_0_0 (ix3 g q f)) = 1#1 := congrFun h (ix3 g q f)
  have hl := lt_of_bit hb
  have e1 : extractStridedSlice S32x4096x4 ![0, 0, 1] (Host.topK Cert.Pre_separated.S32x4096x5 2 (FloatOps.cmpfTotal (F := Ideal) (φ := .f32) .gt)
        (val_main_v52 (F := Ideal) x pos Wso bso) Cert.Pre_separated.Facts.sliceFits_S32x4096x1024_S32x4096x5).1
        Cert.Pre_separated.Facts.slices_S32x4096x5_S32x4096x4_0_0_1 (ix3 g q f)
      = val_main_v52 (F := Ideal) x pos Wso bso (ix3 g q (order (fun k => val_main_v52 (F := Ideal) x pos Wso bso (ix3 g q k)) ⟨f.val + 1, by omega⟩)) := by
    refine Eq.trans ?_ (topK_values (m := 5) (by decide) Cert.Pre_separated.Facts.sliceFits_S32x4096x1024_S32x4096x5
      (val_main_v52 (F := Ideal) x pos Wso bso) g q ⟨f.val + 1, by omega⟩)
    unfold extractStridedSlice
    refine congrArg _ (funext fun a => ?_)
    match a with
    | ⟨0, _⟩ => exact Fin.ext (Nat.zero_add _)
    | ⟨1, _⟩ => exact Fin.ext (Nat.zero_add _)
    | ⟨2, _⟩ => exact Fin.ext (Nat.add_comm _ _)
  have e0 : extractStridedSlice S32x4096x4 ![0, 0, 0] (Host.topK Cert.Pre_separated.S32x4096x5 2 (FloatOps.cmpfTotal (F := Ideal) (φ := .f32) .gt)
        (val_main_v52 (F := Ideal) x pos Wso bso) Cert.Pre_separated.Facts.sliceFits_S32x4096x1024_S32x4096x5).1
        Cert.Pre_separated.Facts.slices_S32x4096x5_S32x4096x4_0_0_0 (ix3 g q f)
      = val_main_v52 (F := Ideal) x pos Wso bso (ix3 g q (order (fun k => val_main_v52 (F := Ideal) x pos Wso bso (ix3 g q k)) ⟨f.val, by omega⟩)) := by
    refine Eq.trans ?_ (topK_values (m := 5) (by decide) Cert.Pre_separated.Facts.sliceFits_S32x4096x1024_S32x4096x5
      (val_main_v52 (F := Ideal) x pos Wso bso) g q ⟨f.val, by omega⟩)
    unfold extractStridedSlice
    refine congrArg _ (funext fun a => ?_)
    match a with
    | ⟨0, _⟩ => exact Fin.ext (Nat.zero_add _)
    | ⟨1, _⟩ => exact Fin.ext (Nat.zero_add _)
    | ⟨2, _⟩ => exact Fin.ext (Nat.zero_add _)
  rw [e1, e0] at hl
  exact hl

/-- The squared distances at a location, nearest first: the order's first five are strictly increasing. -/
theorem nearest_at (h : (Cert.Pre_separated.fn (F := Ideal) x pos Wso bso Waw baw Wv bv Wo bo p).2.2 = fun _ => 1#1) (g : Fin 32) (q : Fin 4096) :
    Nearest (fun m => val_main_v51 (F := Ideal) x pos Wso bso (ix3 g q m))
      fun f => order (fun k => val_main_v52 (F := Ideal) x pos Wso bso (ix3 g q k)) ⟨f.val, by omega⟩ := by
  have hneg : ∀ m, (val_main_v52 (F := Ideal) x pos Wso bso (ix3 g q m) : EReal) = -(val_main_v51 (F := Ideal) x pos Wso bso (ix3 g q m) : EReal) := fun _ => rfl
  refine nearest_of_sorted (fun m => val_main_v51 (F := Ideal) x pos Wso bso (ix3 g q m)) _ (order_surjective _) (fun i j hij => ?_) fun f => ?_
  · have := order_anti (fun k => val_main_v52 (F := Ideal) x pos Wso bso (ix3 g q k)) i j hij
    simp only [hneg] at this
    exact EReal.neg_le_neg_iff.mp this
  · have := near_lt x pos Wso bso Waw baw Wv bv Wo bo p h g q f
    rw [hneg, hneg] at this
    exact EReal.neg_lt_neg_iff.mp this

end Cert.Reference

end
-- ==== Proof.Reference.Gathers.lean ====
/- What the reference's two gathers read: the row the start index names, clamped into the array. -/
module

public import proofs.«01_k».proof.Proof.Reference.Linear
public import Idealize.ShloMosaic.Lib.StableHlo.Predicate

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

/-- The gather of the positions. -/
theorem gather_points (y : FVec Ideal S32x1024x2 .f32) (idx : IVec S32x4096x4x1 32) (g : Fin 32) (q : Fin 4096) (f : Fin 4) (e : Fin 2) (n : Fin 1024)
    (hn : idx (ix4 g q f 0) = BitVec.ofNat 32 n.val) :
    Host.gather gather_S32x1024x2_S32x4096x4x1_S32x4096x4x2_3_1_0_0_1_3_112 y idx (ix4 g q f e) = y (ix3 g n e) := by
  refine congrArg y ?_
  funext a
  match a with
  | ⟨0, _⟩ => exact Fin.ext (by show 0 + g.val + 0 = g.val; omega)
  | ⟨1, _⟩ =>
    refine Fin.ext ?_
    show min (idx _).toInt.toNat (1024 - 1) + 0 + 0 = n.val
    have hi : ∀ j : S32x4096x4x1.Idx, j = ix4 g q f 0 → idx j = BitVec.ofNat 32 n.val := fun j hj => by rw [hj, hn]
    rw [hi _ (by funext a; match a with
      | ⟨0, _⟩ => rfl
      | ⟨1, _⟩ => rfl
      | ⟨2, _⟩ => rfl
      | ⟨3, _⟩ => rfl)]
    have h1 : (BitVec.ofNat 32 n.val).toInt = n.val := StableHlo.Predicate.toInt_ofNat_small n.val (by omega)
    rw [h1]
    omega
  | ⟨2, _⟩ => exact Fin.ext (by show 0 + 0 + e.val = e.val; omega)

/-- The gather of the values. -/
theorem gather_values (y : FVec Ideal S32x1024x64 .f32) (idx : IVec S32x16384x1 32) (g : Fin 32) (r : Fin 16384) (l : Fin 64) (n : Fin 1024)
    (hn : idx (ix3 g r 0) = BitVec.ofNat 32 n.val) :
    Host.gather gather_S32x1024x64_S32x16384x1_S32x16384x64_2_1_0_0_1_2_1164 y idx (ix3 g r l) = y (ix3 g n l) := by
  refine congrArg y ?_
  funext a
  match a with
  | ⟨0, _⟩ => exact Fin.ext (by show 0 + g.val + 0 = g.val; omega)
  | ⟨1, _⟩ =>
    refine Fin.ext ?_
    show min (idx _).toInt.toNat (1024 - 1) + 0 + 0 = n.val
    have hi : ∀ j : S32x16384x1.Idx, j = ix3 g r 0 → idx j = BitVec.ofNat 32 n.val := fun j hj => by rw [hj, hn]
    rw [hi _ (by funext a; match a with
      | ⟨0, _⟩ => rfl
      | ⟨1, _⟩ => rfl
      | ⟨2, _⟩ => rfl)]
    have h1 : (BitVec.ofNat 32 n.val).toInt = n.val := StableHlo.Predicate.toInt_ofNat_small n.val (by omega)
    rw [h1]
    omega
  | ⟨2, _⟩ => exact Fin.ext (by show 0 + 0 + l.val = l.val; omega)

end Cert.Reference

end
-- ==== Proof.Reference.Softmax.lean ====
/- The reference's attention: the softmax of each head's four scores. -/
module

public import proofs.«01_k».proof.Proof.Shepard.Math
public import proofs.«01_k».proof.Proof.Reference.Linear

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

/-- The value a maximum starts from. -/
theorem lowest : Ideal.ofBits .f32 0xFF800000#32 = (⊥ : EReal) := by
  simp [Ideal.ofBits, Ideal.ieee]

/-- The greater of nothing and a value. -/
theorem max_lowest (y : EReal) : max (⊥ : EReal) y = y := max_eq_right bot_le

/-- The attention shares of a token and a head. -/
theorem v22_at (x : FVec Ideal S2x1024x1024 .f32) (W : FVec Ideal S64x1024 .f32) (bias : FVec Ideal S64 .f32) (b : Fin 2) (n : Fin 1024) (h : Fin 16) (k : Fin 4) :
    val_main_v22 (F := Ideal) x W bias (ix4 b n h k) = soft (fun i => val_main_v10 (F := Ideal) x W bias (ix3 b n ⟨h.val * 4 + i.val, by omega⟩)) k := by
  unfold soft
  pointwise [val_main_v22, val_main_v21, val_main_v20, val_main_v19, val_main_v18, val_main_v17, val_main_v16, val_main_v15, val_main_v14, val_main_v13,
    val_main_v12, val_main_v11, val_main_cst, val_main_cst_0, val_main_cst_1]
  simp only [lowest, max_lowest]

/-- The attention shares, laid out by head. -/
theorem v95_at (x : FVec Ideal S2x1024x1024 .f32) (W : FVec Ideal S64x1024 .f32) (bias : FVec Ideal S64 .f32) (b : Fin 2) (n : Fin 1024) (h : Fin 16) (k : Fin 4) :
    val_main_v95 (F := Ideal) x W bias (ix3 ⟨b.val * 16 + h.val, by omega⟩ n k) = val_main_v22 (F := Ideal) x W bias (ix4 b n h k) := by
  pointwise [val_main_v95, val_main_v94]

end Cert.Reference

end
-- ==== Proof.Reference.Neighbours.lean ====
/- What the reference gathers at the nearest points, and their weights. -/
module

public import proofs.«01_k».proof.Proof.Shepard.Math
public import proofs.«01_k».proof.Proof.Reference.Sorted
public import proofs.«01_k».proof.Proof.Reference.Gathers
public import proofs.«01_k».proof.Proof.Reference.Softmax

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

variable (x : FVec Ideal S2x1024x1024 .f32) (pos : FVec Ideal S2x1024x2 .f32) (Wso : FVec Ideal S128x1024 .f32) (bso : FVec Ideal S128 .f32)
  (Wv : FVec Ideal S1024x1024 .f32) (bv : FVec Ideal S1024 .f32) (p : FVec Ideal S_ .f32)

/-- The reference's `f`-th nearest point of a location. -/
def neighbour (g : Fin 32) (q : Fin 4096) (f : Fin 4) : Fin 1024 :=
  order (fun k => val_main_v52 (F := Ideal) x pos Wso bso (ix3 g q k)) ⟨f.val, by omega⟩

/-- A nonnegative index is not wrapped. -/
theorem wrap_eq (n : Fin 1024) (y : BitVec 32) :
    Scalar.select (IntOp.cmpi .slt (BitVec.ofNat 32 n.val) 0#32) y (BitVec.ofNat 32 n.val) = BitVec.ofNat 32 n.val := by
  have h : IntOp.cmpi .slt (BitVec.ofNat 32 n.val) 0#32 = 0#1 := by
    have h1 : (BitVec.ofNat 32 n.val).toInt = n.val := StableHlo.Predicate.toInt_ofNat_small n.val (by omega)
    unfold IntOp.cmpi
    simp only [BitVec.slt, h1, BitVec.ofNat_eq_ofNat, BitVec.toInt_zero]
    rw [decide_eq_false (by omega : ¬((n.val : ℤ) < 0))]
    rfl
  rw [h]
  rfl

/-- The indices of the nearest points. -/
theorem indices_at (g : Fin 32) (q : Fin 4096) (f : Fin 4) :
    val_main_indices (F := Ideal) x pos Wso bso (ix3 g q f) = BitVec.ofNat 32 (neighbour x pos Wso bso g q f).val :=
  topK_places (m := 4) (by decide) sliceFits_S32x4096x1024_S32x4096x4 (val_main_v52 (F := Ideal) x pos Wso bso) g q f

/-- The positions of the nearest points. -/
theorem v59_at (g : Fin 32) (q : Fin 4096) (f : Fin 4) (e : Fin 2) :
    val_main_v59 (F := Ideal) x pos Wso bso (ix4 g q f e) = val_main_v38 (F := Ideal) pos (ix3 g (neighbour x pos Wso bso g q f) e) := by
  refine gather_points _ _ g q f e _ ?_
  have h : val_main_v58 (F := Ideal) x pos Wso bso (ix4 g q f 0) = val_main_v57 (F := Ideal) x pos Wso bso (ix3 g q f) := by
    rw [val_main_v58_apply]
    exact congrArg _ (funext fun a => by match a with
      | ⟨0, _⟩ => rfl
      | ⟨1, _⟩ => rfl
      | ⟨2, _⟩ => rfl)
  rw [h, val_main_v57_apply, val_main_v54_apply, indices_at]
  exact wrap_eq _ _

/-- The values of the nearest points. -/
theorem v91_at (g : Fin 32) (q : Fin 4096) (f : Fin 4) (l : Fin 64) :
    val_main_v91 (F := Ideal) x pos Wso bso Wv bv (ix3 g ⟨q.val * 4 + f.val, by omega⟩ l)
      = val_main_v30 (F := Ideal) x Wv bv (ix3 g (neighbour x pos Wso bso g q f) l) := by
  have hq := q.isLt
  have hf := f.isLt
  refine gather_values _ _ g _ l _ ?_
  have h : val_main_v90 (F := Ideal) x pos Wso bso (ix3 g ⟨q.val * 4 + f.val, by omega⟩ 0)
      = val_main_v89 (F := Ideal) x pos Wso bso (ix2 g ⟨q.val * 4 + f.val, by omega⟩) := by
    rw [val_main_v90_apply]
    exact congrArg _ (funext fun a => by match a with
      | ⟨0, _⟩ => rfl
      | ⟨1, _⟩ => rfl)
  have h84 : val_main_v84 (F := Ideal) x pos Wso bso (ix2 g ⟨q.val * 4 + f.val, by omega⟩) = val_main_indices (F := Ideal) x pos Wso bso (ix3 g q f) := by
    rw [val_main_v84_apply]
    refine congrArg _ (funext fun a => ?_)
    have hg := g.isLt
    match a with
    | ⟨0, _⟩ => exact Fin.ext (by show (g.val * 16384 + (q.val * 4 + f.val)) / 16384 = g.val; omega)
    | ⟨1, _⟩ => exact Fin.ext (by show (g.val * 16384 + (q.val * 4 + f.val)) / 4 % 4096 = q.val; omega)
    | ⟨2, _⟩ => exact Fin.ext (by show (g.val * 16384 + (q.val * 4 + f.val)) % 4 = f.val; omega)
  rw [h, val_main_v89_apply, val_main_v86_apply, h84, indices_at]
  exact wrap_eq _ _

/-- The exponents of the nearest points, from their positions. -/
theorem v72_read (g : Fin 32) (q : Fin 4096) (f : Fin 4) :
    val_main_v72 (F := Ideal) x pos Wso bso p (ix3 g q f)
      = -power (p ix0) * (Ideal.sqrt
          ((val_main_v59 (F := Ideal) x pos Wso bso (ix4 g q f 0) - val_main_v35 (F := Ideal) x pos Wso bso (ix3 g q 0))
              * (val_main_v59 (F := Ideal) x pos Wso bso (ix4 g q f 0) - val_main_v35 (F := Ideal) x pos Wso bso (ix3 g q 0))
            + (val_main_v59 (F := Ideal) x pos Wso bso (ix4 g q f 1) - val_main_v35 (F := Ideal) x pos Wso bso (ix3 g q 1))
              * (val_main_v59 (F := Ideal) x pos Wso bso (ix4 g q f 1) - val_main_v35 (F := Ideal) x pos Wso bso (ix3 g q 1)))
          + Ideal.ofBits .f32 0x358637BD#32) := by
  unfold power
  pointwise [val_main_v72, val_main_v71, val_main_v70, val_main_v69, val_main_v68, val_main_v67, val_main_v66, val_main_v65, val_main_v64, val_main_v63,
    val_main_v62, val_main_v61, val_main_v60, val_main_cst_6, val_main_cst_7, val_main_cst_8, val_main_call0_cst, Fin.sum_univ_two]

/-- The weights of the nearest points are the softmax of their exponents. -/
theorem v83_at (g : Fin 32) (q : Fin 4096) (f : Fin 4) :
    val_main_v83 (F := Ideal) x pos Wso bso p (ix3 g q f) = soft (fun i => val_main_v72 (F := Ideal) x pos Wso bso p (ix3 g q i)) f := by
  unfold soft
  pointwise [val_main_v83, val_main_v82, val_main_v81, val_main_v80, val_main_v79, val_main_v78, val_main_v77, val_main_v76, val_main_v75, val_main_v74,
    val_main_v73, val_main_cst_9, val_main_cst_10, val_main_cst_11]
  simp only [lowest, max_lowest]

end Cert.Reference

end
-- ==== Proof.Reference.Weighted.lean ====
/- The reference's weighted sum over the nearest points of a location, at an index. -/
module

public import proofs.«01_k».proof.Proof.Reference.Neighbours

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

variable (x : FVec Ideal S2x1024x1024 .f32) (pos : FVec Ideal S2x1024x2 .f32) (Wso : FVec Ideal S128x1024 .f32) (bso : FVec Ideal S128 .f32)
  (Wv : FVec Ideal S1024x1024 .f32) (bv : FVec Ideal S1024 .f32) (p : FVec Ideal S_ .f32)

/-- The weight a term of the sum holds. -/
theorem v97_at (g : Fin 32) (n : Fin 1024) (k f : Fin 4) (l : Fin 64) :
    val_main_v97 (F := Ideal) x pos Wso bso p (idx_main_v99 (ix4 g n k l) f)
      = val_main_v83 (F := Ideal) x pos Wso bso p (ix3 g ⟨n.val * 4 + k.val, by omega⟩ f) := by
  rw [val_main_v97_apply, val_main_v96_apply, val_main_v93_apply]
  have hg := g.isLt
  have hn := n.isLt
  have hk := k.isLt
  have hf := f.isLt
  refine congrArg _ (funext fun a => ?_)
  match a with
  | ⟨0, _⟩ => exact Fin.ext (by show (((g.val * 1024 + n.val) * 4 + k.val) * 4 + f.val) / 16384 = g.val; omega)
  | ⟨1, _⟩ => exact Fin.ext (by show (((g.val * 1024 + n.val) * 4 + k.val) * 4 + f.val) / 4 % 4096 = n.val * 4 + k.val; omega)
  | ⟨2, _⟩ => exact Fin.ext (by show (((g.val * 1024 + n.val) * 4 + k.val) * 4 + f.val) % 4 = f.val; omega)

/-- The value a term of the sum holds. -/
theorem v92_at (g : Fin 32) (n : Fin 1024) (k f : Fin 4) (l : Fin 64) :
    val_main_v92 (F := Ideal) x pos Wso bso Wv bv (idx_main_v99 (ix4 g n k l) f)
      = val_main_v91 (F := Ideal) x pos Wso bso Wv bv (ix3 g ⟨(n.val * 4 + k.val) * 4 + f.val, by omega⟩ l) := by
  rw [val_main_v92_apply]
  have hg := g.isLt
  have hn := n.isLt
  have hk := k.isLt
  have hf := f.isLt
  have hl := l.isLt
  refine congrArg _ (funext fun a => ?_)
  match a with
  | ⟨0, _⟩ => exact Fin.ext (by show ((((g.val * 1024 + n.val) * 4 + k.val) * 4 + f.val) * 64 + l.val) / 1048576 = g.val; omega)
  | ⟨1, _⟩ => exact Fin.ext (by show ((((g.val * 1024 + n.val) * 4 + k.val) * 4 + f.val) * 64 + l.val) / 64 % 16384 = (n.val * 4 + k.val) * 4 + f.val; omega)
  | ⟨2, _⟩ => exact Fin.ext (by show ((((g.val * 1024 + n.val) * 4 + k.val) * 4 + f.val) * 64 + l.val) % 64 = l.val; omega)

/-- The value sums start from. -/
theorem zero_word : Ideal.ofBits .f32 0x00000000#32 = (0 : EReal) := by
  simp [Ideal.ofBits, Ideal.ieee]

/-- The weighted sum over the nearest points. -/
theorem v99_at (g : Fin 32) (n : Fin 1024) (k : Fin 4) (l : Fin 64) :
    (val_main_v99 (F := Ideal) x pos Wso bso Wv bv p (ix4 g n k l) : EReal)
      = ∑ f : Fin 4, (val_main_v83 (F := Ideal) x pos Wso bso p (ix3 g ⟨n.val * 4 + k.val, by omega⟩ f)
          * val_main_v91 (F := Ideal) x pos Wso bso Wv bv (ix3 g ⟨(n.val * 4 + k.val) * 4 + f.val, by omega⟩ l) : EReal) := by
  refine (val_main_v99_apply x pos Wso bso Wv bv p (ix4 g n k l)).trans ?_
  have h0 : val_main_cst_14 (F := Ideal) (Shape.Idx.first h_S_) = (0 : EReal) := zero_word
  rw [h0]
  refine (zero_add _).trans (Finset.sum_congr rfl fun f _ => ?_)
  rw [val_main_v98_apply, v97_at, v92_at]
  rfl

end Cert.Reference

end
-- ==== Proof.Reference.Distance.lean ====
/- The reference's squared distances. -/
module

public import proofs.«01_k».proof.Proof.Reference.Linear

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

/-- The squared distances, from the locations and the positions. -/
theorem v51_read (x : FVec Ideal S2x1024x1024 .f32) (pos : FVec Ideal S2x1024x2 .f32) (W : FVec Ideal S128x1024 .f32) (bias : FVec Ideal S128 .f32)
    (g : Fin 32) (q : Fin 4096) (m : Fin 1024) :
    val_main_v51 (F := Ideal) x pos W bias (ix3 g q m)
      = dist2 (fun e => val_main_v35 (F := Ideal) x pos W bias (ix3 g q e)) (fun n e => val_main_v38 (F := Ideal) pos (ix3 g n e)) m := by
  unfold dist2
  pointwise [val_main_v51, val_main_v50, val_main_v49, val_main_v48, val_main_v47, val_main_v46, val_main_v45, val_main_v44, val_main_v43, val_main_v42,
    val_main_v41, val_main_v40, val_main_v39, val_main_cst_2, val_main_cst_3, val_main_cst_4, Fin.sum_univ_two]

/-- The squared distances at a location. -/
theorem v51_at (x : FVec Ideal S2x1024x1024 .f32) (pos : FVec Ideal S2x1024x2 .f32) (W : FVec Ideal S128x1024 .f32) (bias : FVec Ideal S128 .f32) (b : Fin 2)
    (h : Fin 16) (n : Fin 1024) (k : Fin 4) (m : Fin 1024) :
    val_main_v51 (F := Ideal) x pos W bias (ix3 ⟨b.val * 16 + h.val, by omega⟩ ⟨n.val * 4 + k.val, by omega⟩ m)
      = dist2 (place x pos W bias b n ⟨h.val * 4 + k.val, by omega⟩) (fun n' e => pos (ix3 b n' e)) m := by
  rw [v51_read]
  exact congrArg₂ (fun s P => dist2 s P m) (funext fun e => v35_at x pos W bias b h n k e) (funext fun n' => funext fun e => v38_at pos b h n' e)

end Cert.Reference

end
-- ==== Proof.Reference.Head.lean ====
/- The reference's head outputs are the kernel's, under the precondition. -/
module

public import proofs.«01_k».proof.Proof.Reference.Precondition
public import proofs.«01_k».proof.Proof.Reference.Weighted
public import proofs.«01_k».proof.Proof.Reference.Distance

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

variable (x : FVec Ideal S2x1024x1024 .f32) (pos : FVec Ideal S2x1024x2 .f32) (Wso : FVec Ideal S128x1024 .f32) (bso : FVec Ideal S128 .f32)
  (Waw : FVec Ideal S64x1024 .f32) (baw : FVec Ideal S64 .f32) (Wv : FVec Ideal S1024x1024 .f32) (bv : FVec Ideal S1024 .f32)
  (Wo : FVec Ideal S1024x1024 .f32) (bo : FVec Ideal S1024 .f32) (p : FVec Ideal S_ .f32)

/-- The attention shares are the kernel's. -/
theorem attention_at (h1 : (Cert.Pre_separated.fn (F := Ideal) x pos Wso bso Waw baw Wv bv Wo bo p).1 = fun _ => 1#1) (b : Fin 2) (n : Fin 1024) (h : Fin 16)
    (k : Fin 4) :
    val_main_v95 (F := Ideal) x Waw baw (ix3 ⟨b.val * 16 + h.val, by omega⟩ n k)
      = share (fun j => linear x Waw baw b n j) ⟨h.val * 4 + k.val, by omega⟩ := by
  have ha : ∀ j, linear x Waw baw b n j < ⊤ := fun j => (v10_at x Waw baw b n j) ▸ scores_lt x pos Wso bso Waw baw Wv bv Wo bo p h1 b n j
  rw [share_eq _ ha h k, v95_at, v22_at]
  simp only [v10_at]

/-- The exponent of a nearest point. -/
theorem v72_at (b : Fin 2) (h : Fin 16) (n : Fin 1024) (k f : Fin 4) :
    val_main_v72 (F := Ideal) x pos Wso bso p (ix3 ⟨b.val * 16 + h.val, by omega⟩ ⟨n.val * 4 + k.val, by omega⟩ f)
      = reach (p ix0) (place x pos Wso bso b n ⟨h.val * 4 + k.val, by omega⟩) (fun n' e => pos (ix3 b n' e))
          (neighbour x pos Wso bso ⟨b.val * 16 + h.val, by omega⟩ ⟨n.val * 4 + k.val, by omega⟩ f) := by
  rw [v72_read]
  simp only [v59_at, v38_at, v35_at]
  rfl

/-- What one sampling location adds. -/
theorem location_at (h1 : (Cert.Pre_separated.fn (F := Ideal) x pos Wso bso Waw baw Wv bv Wo bo p).1 = fun _ => 1#1)
    (h2 : (Cert.Pre_separated.fn (F := Ideal) x pos Wso bso Waw baw Wv bv Wo bo p).2.1 = fun _ => 1#1)
    (h3 : (Cert.Pre_separated.fn (F := Ideal) x pos Wso bso Waw baw Wv bv Wo bo p).2.2 = fun _ => 1#1) (b : Fin 2) (h : Fin 16) (n : Fin 1024) (k : Fin 4)
    (l : Fin 64) :
    (val_main_v95 (F := Ideal) x Waw baw (ix3 ⟨b.val * 16 + h.val, by omega⟩ n k)
        * val_main_v99 (F := Ideal) x pos Wso bso Wv bv p (ix4 ⟨b.val * 16 + h.val, by omega⟩ n k l) : EReal)
      = contrib (p ix0) (place x pos Wso bso b n ⟨h.val * 4 + k.val, by omega⟩) (fun n' e => pos (ix3 b n' e))
          (fun n' => linear x Wv bv b n' ⟨h.val * 64 + l.val, by omega⟩) (share (fun j => linear x Waw baw b n j) ⟨h.val * 4 + k.val, by omega⟩) := by
  rw [attention_at x pos Wso bso Waw baw Wv bv Wo bo p h1 b n h k]
  have hN := nearest_at x pos Wso bso Waw baw Wv bv Wo bo p h3 ⟨b.val * 16 + h.val, by omega⟩ ⟨n.val * 4 + k.val, by omega⟩
  rw [funext fun m => v51_at x pos Wso bso b h n k m] at hN
  rw [contrib_eq _ (power_lt x pos Wso bso Waw baw Wv bv Wo bo p h2) _ _ _ _ _ hN, v99_at]
  refine congrArg (HMul.hMul (share (fun j => linear x Waw baw b n j) ⟨h.val * 4 + k.val, by omega⟩)) (Finset.sum_congr rfl fun f _ => ?_)
  have e91 : val_main_v91 (F := Ideal) x pos Wso bso Wv bv (ix3 ⟨b.val * 16 + h.val, by omega⟩ ⟨(n.val * 4 + k.val) * 4 + f.val, by omega⟩ l)
      = linear x Wv bv b (neighbour x pos Wso bso ⟨b.val * 16 + h.val, by omega⟩ ⟨n.val * 4 + k.val, by omega⟩ f) ⟨h.val * 64 + l.val, by omega⟩ :=
    (v91_at x pos Wso bso Wv bv ⟨b.val * 16 + h.val, by omega⟩ ⟨n.val * 4 + k.val, by omega⟩ f l).trans (v30_at x Wv bv b h _ l)
  rw [v83_at, e91]
  simp only [v72_at]
  rfl

end Cert.Reference

end
-- ==== Proof.Reference.Output.lean ====
/- The reference's attention sum and its output layer, at an index. -/
module

public import proofs.«01_k».proof.Proof.Reference.Weighted

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

variable (x : FVec Ideal S2x1024x1024 .f32) (pos : FVec Ideal S2x1024x2 .f32) (Wso : FVec Ideal S128x1024 .f32) (bso : FVec Ideal S128 .f32)
  (Waw : FVec Ideal S64x1024 .f32) (baw : FVec Ideal S64 .f32) (Wv : FVec Ideal S1024x1024 .f32) (bv : FVec Ideal S1024 .f32)
  (Wo : FVec Ideal S1024x1024 .f32) (bo : FVec Ideal S1024 .f32) (p : FVec Ideal S_ .f32)

/-- The sum over the locations of a token, weighted by the attention. -/
theorem v103_at (g : Fin 32) (n : Fin 1024) (l : Fin 64) :
    (val_main_v103 (F := Ideal) x pos Wso bso Waw baw Wv bv p (ix3 g n l) : EReal)
      = ∑ k : Fin 4, (val_main_v95 (F := Ideal) x Waw baw (ix3 g n k) * val_main_v99 (F := Ideal) x pos Wso bso Wv bv p (ix4 g n k l) : EReal) := by
  refine (val_main_v103_apply x pos Wso bso Waw baw Wv bv p (ix3 g n l)).trans ?_
  have h0 : val_main_cst_15 (F := Ideal) (Shape.Idx.first h_S_) = (0 : EReal) := zero_word
  rw [h0]
  refine (zero_add _).trans (Finset.sum_congr rfl fun k _ => ?_)
  have e95 : val_main_v101 (F := Ideal) x Waw baw (idx_main_v103 (ix3 g n l) k) = val_main_v95 (F := Ideal) x Waw baw (ix3 g n k) := by
    rw [val_main_v101_apply, val_main_v100_apply]
    exact congrArg _ (funext fun a => by match a with
      | ⟨0, _⟩ => rfl
      | ⟨1, _⟩ => rfl
      | ⟨2, _⟩ => rfl)
  have e99 : idx_main_v103 (ix3 g n l) k = ix4 g n k l := funext fun a => by match a with
    | ⟨0, _⟩ => rfl
    | ⟨1, _⟩ => rfl
    | ⟨2, _⟩ => rfl
    | ⟨3, _⟩ => rfl
  rw [val_main_v102_apply, e95, e99]
  rfl

/-- The heads side by side. -/
theorem v106_at (b : Fin 2) (n : Fin 1024) (h : Fin 16) (l : Fin 64) :
    val_main_v106 (F := Ideal) x pos Wso bso Waw baw Wv bv p (ix3 b n ⟨h.val * 64 + l.val, by omega⟩)
      = val_main_v103 (F := Ideal) x pos Wso bso Waw baw Wv bv p (ix3 ⟨b.val * 16 + h.val, by omega⟩ n l) := by
  rw [val_main_v106_apply, val_main_v105_apply, val_main_v104_apply]
  have hb := b.isLt
  have hn := n.isLt
  have hh := h.isLt
  have hl := l.isLt
  refine congrArg _ (funext fun a => ?_)
  have h0 : ((b.val * 1024 + n.val) * 1024 + (h.val * 64 + l.val)) / 1048576 = b.val := by omega
  have h1 : ((b.val * 1024 + n.val) * 1024 + (h.val * 64 + l.val)) / 1024 % 1024 = n.val := by omega
  have h2 : ((b.val * 1024 + n.val) * 1024 + (h.val * 64 + l.val)) / 64 % 16 = h.val := by omega
  have h3 : ((b.val * 1024 + n.val) * 1024 + (h.val * 64 + l.val)) % 64 = l.val := by omega
  match a with
  | ⟨0, _⟩ =>
    refine Fin.ext ?_
    show (((((b.val * 1024 + n.val) * 1024 + (h.val * 64 + l.val)) / 1048576 * 16 + ((b.val * 1024 + n.val) * 1024 + (h.val * 64 + l.val)) / 64 % 16) * 1024
      + ((b.val * 1024 + n.val) * 1024 + (h.val * 64 + l.val)) / 1024 % 1024) * 64 + ((b.val * 1024 + n.val) * 1024 + (h.val * 64 + l.val)) % 64) / 65536 = b.val * 16 + h.val
    rw [h0, h1, h2, h3]
    omega
  | ⟨1, _⟩ =>
    refine Fin.ext ?_
    show (((((b.val * 1024 + n.val) * 1024 + (h.val * 64 + l.val)) / 1048576 * 16 + ((b.val * 1024 + n.val) * 1024 + (h.val * 64 + l.val)) / 64 % 16) * 1024
      + ((b.val * 1024 + n.val) * 1024 + (h.val * 64 + l.val)) / 1024 % 1024) * 64 + ((b.val * 1024 + n.val) * 1024 + (h.val * 64 + l.val)) % 64) / 64 % 1024 = n.val
    rw [h0, h1, h2, h3]
    omega
  | ⟨2, _⟩ =>
    refine Fin.ext ?_
    show (((((b.val * 1024 + n.val) * 1024 + (h.val * 64 + l.val)) / 1048576 * 16 + ((b.val * 1024 + n.val) * 1024 + (h.val * 64 + l.val)) / 64 % 16) * 1024
      + ((b.val * 1024 + n.val) * 1024 + (h.val * 64 + l.val)) / 1024 % 1024) * 64 + ((b.val * 1024 + n.val) * 1024 + (h.val * 64 + l.val)) % 64) % 64 = l.val
    rw [h0, h1, h2, h3]
    omega

/-- The output layer. -/
theorem v111_at (b : Fin 2) (n o : Fin 1024) :
    (val_main_v111 (F := Ideal) x pos Wso bso Waw baw Wv bv Wo bo p (ix3 b n o) : EReal)
      = (∑ c : Fin 1024, (val_main_v106 (F := Ideal) x pos Wso bso Waw baw Wv bv p (ix3 b n c) * Wo (ix2 o c) : EReal)) + bo (ix1 o) := by
  have e108 : (val_main_v108 (F := Ideal) x pos Wso bso Waw baw Wv bv Wo p (ix3 b n o) : EReal)
      = ∑ c : Fin 1024, (val_main_v106 (F := Ideal) x pos Wso bso Waw baw Wv bv p (ix3 b n c) * Wo (ix2 o c) : EReal) := by
    refine (val_main_v108_apply x pos Wso bso Waw baw Wv bv Wo p (ix3 b n o)).trans (Finset.sum_congr rfl fun c _ => ?_)
    rw [val_main_v107_apply]
    have el : lidx_main_v108 (ix3 b n o) c = ix3 b n c := funext fun a => by match a with
      | ⟨0, _⟩ => rfl
      | ⟨1, _⟩ => rfl
      | ⟨2, _⟩ => rfl
    have er : idx_main_v107 (ridx_main_v108 (ix3 b n o) c) = ix2 o c := funext fun a => by match a with
      | ⟨0, _⟩ => rfl
      | ⟨1, _⟩ => rfl
    rw [el, er]
  have e110 : val_main_v110 (F := Ideal) bo (ix3 b n o) = bo (ix1 o) := by
    rw [val_main_v110_apply, val_main_v109_apply]
    exact congrArg bo (funext fun a => by match a with
      | ⟨0, _⟩ => rfl)
  rw [val_main_v111_apply, e110]
  exact congrArg (fun y : EReal => y + (bo (ix1 o) : EReal)) e108

end Cert.Reference

end
-- ==== Proof.Reference.Value.lean ====
/- The reference's result is the kernel's formula, under the precondition. -/
module

public import proofs.«01_k».proof.Proof.Reference.Head
public import proofs.«01_k».proof.Proof.Reference.Output

@[expose] public section

set_option maxRecDepth 16384

noncomputable section

namespace Cert.Reference

open Idealize.ShloMosaic Idealize.ShloMosaic.TcCoe
open Cert.ReferenceIdeal Cert.ReferenceIdeal.Gen Cert.ReferenceIdeal.Read Cert.Shepard

variable (x : FVec Ideal S2x1024x1024 .f32) (pos : FVec Ideal S2x1024x2 .f32) (Wso : FVec Ideal S128x1024 .f32) (bso : FVec Ideal S128 .f32)
  (Waw : FVec Ideal S64x1024 .f32) (baw : FVec Ideal S64 .f32) (Wv : FVec Ideal S1024x1024 .f32) (bv : FVec Ideal S1024 .f32)
  (Wo : FVec Ideal S1024x1024 .f32) (bo : FVec Ideal S1024 .f32) (p : FVec Ideal S_ .f32)

/-- The reference's result at an index. -/
theorem result_at (h1 : (Cert.Pre_separated.fn (F := Ideal) x pos Wso bso Waw baw Wv bv Wo bo p).1 = fun _ => 1#1)
    (h2 : (Cert.Pre_separated.fn (F := Ideal) x pos Wso bso Waw baw Wv bv Wo bo p).2.1 = fun _ => 1#1)
    (h3 : (Cert.Pre_separated.fn (F := Ideal) x pos Wso bso Waw baw Wv bv Wo bo p).2.2 = fun _ => 1#1) (b : Fin 2) (n o : Fin 1024) :
    val_main_v111 (F := Ideal) x pos Wso bso Waw baw Wv bv Wo bo p (ix3 b n o) = result (p ix0) x pos Wso bso Waw baw Wv bv Wo bo b n o := by
  rw [v111_at, Fin.sum_univ_tiles 16 64 rfl, add_comm]
  unfold result
  refine congrArg (HAdd.hAdd (bo (ix1 o) : EReal)) (Finset.sum_congr rfl fun h _ => Finset.sum_congr rfl fun l _ => ?_)
  refine congrArg (fun y : EReal => y * (Wo (ix2 o ⟨h.val * 64 + l.val, by omega⟩) : EReal)) ?_
  rw [v106_at, v103_at]
  unfold headOut
  exact Finset.sum_congr rfl fun k _ => location_at x pos Wso bso Waw baw Wv bv Wo bo p h1 h2 h3 b h n k l

end Cert.Reference

end
-- ==== Proof.Equation.lean ====
/- The equation: under the precondition the reference's result array is the kernel's. -/
module

public import proofs.«01_k».proof.Proof.KernelIdeal.Value
public import proofs.«01_k».proof.Proof.Reference.Value

@[expose] public section

set_option maxRecDepth 16384

noncomputable section

namespace Cert.Equation

open Idealize.ShloMosaic Idealize.ShloMosaic.TcCoe
open Cert.KernelIdeal Cert.KernelIdeal.Gen Cert.KernelIdeal.Whole

variable (m : (ℓ : Loc nD τ sig) → Buf (Elt Ideal) ℓ) (c : Dev nD)

/-- The precondition's function of the kernel's argument arrays on a device. -/
def pre := Cert.Pre_separated.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The reference's result of the kernel's argument arrays is what the kernel leaves in its result array. -/
theorem result_eq (h1 : (pre m c).1 = fun _ => 1#1) (h2 : (pre m c).2.1 = fun _ => 1#1) (h3 : (pre m c).2.2 = fun _ => 1#1) :
    Cert.ReferenceIdeal.Read.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) = U6 m c main_v29 := by
  funext i
  have hi : i = ix3 (i 0 : Fin 2) (i 1 : Fin 1024) (i 2 : Fin 1024) := by
    funext a
    match a with
    | ⟨0, _⟩ => rfl
    | ⟨1, _⟩ => rfl
    | ⟨2, _⟩ => rfl
  rw [hi]
  exact (Cert.Reference.result_at _ _ _ _ _ _ _ _ _ _ _ h1 h2 h3 (i 0) (i 1) (i 2)).trans (Cert.KernelIdeal.Value.result_at m c (i 0) (i 1) (i 2)).symm

end Cert.Equation

end
-- ==== Proof.lean ====
/- The claims of `Cert.Claim`: the two forms of the program and the reference run, end with their arguments unchanged
   and every counter at zero; the idealised program has no rewritten operation; and under the precondition the kernel and
   the reference leave the same result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Own.Kernel.K0.Frame
public import proofs.«01_k».proof.Proof.Gen.Own.KernelIdeal.K0.Frame
public import proofs.«01_k».proof.Proof.Gen.ReferenceIdeal.Run
public import proofs.«01_k».proof.Proof.Gen.ReferenceIdeal.Read
public import proofs.«01_k».proof.Proof.Kernel.Launch
public import proofs.«01_k».proof.Proof.KernelIdeal.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments unchanged and every counter at zero. -/
theorem reference_frame : quiescent_ReferenceIdeal := fun m g _ => (θ_run _ _ _).mono
  (fun r h => ⟨fun c => (h c).2, sem_eq_zero_of_no_sems (by decide) r.2⟩) (Cert.ReferenceIdeal.Value.run (F := Ideal) m g)

/-- Under the precondition the kernel and the reference leave the same result. -/
theorem value : algebraic_KernelIdeal_ReferenceIdeal_pre_separated := by
  intro m g m' g' hp ha
  refine ⟨fun c => Cert.KernelIdeal.Whole.U6 m c (Proc.devRef .tc Cert.KernelIdeal.main_v29),
    (θ_run _ _ _).mono (fun _ h => h.1) (Cert.KernelIdeal.Whole.run_result m g), ?_⟩
  have key (c : Dev Cert.ReferenceIdeal.nD) : Cert.ReferenceIdeal.Read.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Cert.KernelIdeal.Whole.U6 m c (Proc.devRef .tc Cert.KernelIdeal.main_v29) := by
    obtain ⟨e0, e1, e2, e3, e4, e5, e6, e7, e8, e9, e10⟩ := ha c
    rw [e0, e1, e2, e3, e4, e5, e6, e7, e8, e9, e10]
    exact Cert.Equation.result_eq m c (hp c).1 (hp c).2.1 (hp c).2.2
  exact (θ_run _ _ _).mono (fun r h c => ⟨((h c).1.trans (Cert.ReferenceIdeal.Read.val_main_v111_eq (F := Ideal) (StableHlo.launchContents m' c))).trans (key c), (h c).2⟩)
    (Cert.ReferenceIdeal.Value.run (F := Ideal) m' g')

/-- Everything claimed. -/
theorem claim : Cert.Claim := ⟨Cert.Kernel.Gen.facts, Cert.KernelIdeal.Gen.facts, Cert.ReferenceIdeal.Gen.facts, Cert.Reference.preFacts,
  fun m g _ => Cert.Kernel.Whole.frame m g,
  fun m g _ => Cert.KernelIdeal.Whole.frame m g,
  fun m g _ => Cert.KernelIdeal.Whole.frame m g,
  reference_frame,
  fun m g _ => reference_frame m g trivial,
  trivial,
  value⟩

end Cert.Proof

end
